-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "s" .f32 0x413504F3#32 ((Real.sqrt 128 : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4x2048 : Shape := ⟨2, ![4, 2048]⟩
abbrev S1000000x128 : Shape := ⟨2, ![1000000, 128]⟩
abbrev S2048x128 : Shape := ⟨2, ![2048, 128]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : IVec S4x2048 32) (main_arg1 : FVec F S1000000x128 .f32) (main_arg2 : FVec F S2048x128 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg0 main_v0
  let main_c_0 : IVec S_ 32 := constantI S_ 32 1000000#32
  let main_v2 : IVec S4x2048 32 := broadcastInDim S4x2048 ![] bcast_S_S4x2048 main_c_0
  let main_v3 : IVec S4x2048 1 := cmpi .slt main_arg0 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  main_v5
-- ==== Kernel.lean ====
abbrev S4x2048 : Shape := ⟨2, ![4, 2048]⟩
abbrev S1000000x128 : Shape := ⟨2, ![1000000, 128]⟩
abbrev S2048x128 : Shape := ⟨2, ![2048, 128]⟩
abbrev S64x128 : Shape := ⟨2, ![64, 128]⟩
abbrev S8192x128 : Shape := ⟨2, ![8192, 128]⟩
abbrev S2x128 : Shape := ⟨2, ![2, 128]⟩
abbrev S256x128 : Shape := ⟨2, ![256, 128]⟩
abbrev S_ : Shape := ⟨0, ![]⟩
abbrev S128x128 : Shape := ⟨2, ![128, 128]⟩
abbrev S1x128 : Shape := ⟨2, ![1, 128]⟩
abbrev S128 : Shape := ⟨1, ![128]⟩
abbrev S1x16 : Shape := ⟨2, ![1, 16]⟩
abbrev S16 : Shape := ⟨1, ![16]⟩
abbrev S4x2048x128 : Shape := ⟨3, ![4, 2048, 128]⟩

abbrev nBuf : Table → Nat
  | .hbm => 6
  | .local .scVector .vmem => 3
  | _ => 0

abbrev bufTy : (tb : Table) → Fin (nBuf tb) → BufTy
  | .hbm, ⟨0, _⟩ => ⟨S4x2048, .i32⟩
  | .hbm, ⟨1, _⟩ => ⟨S1000000x128, .f32⟩
  | .hbm, ⟨2, _⟩ => ⟨S2048x128, .f32⟩
  | .hbm, ⟨3, _⟩ => ⟨S64x128, .i32⟩
  | .hbm, ⟨4, _⟩ => ⟨S8192x128, .f32⟩
  | .hbm, ⟨5, _⟩ => ⟨S4x2048x128, .f32⟩
  | .local .scVector .vmem, ⟨0, _⟩ => ⟨S2x128, .i32⟩
  | .local .scVector .vmem, ⟨1, _⟩ => ⟨S256x128, .f32⟩
  | .local .scVector .vmem, ⟨2, _⟩ => ⟨S256x128, .f32⟩
  | _, _ => ⟨S4x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_27_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c2048_i32 : BitVec 32 := 2048#32
  let v4 : BitVec 32 := Scalar.remsi v2 c2048_i32
  let c0_i32_27_r1 : BitVec 32 := 0#32
  ![v4.toNat, 0]
@[reducible] def k0_t1_loop : Scf.Loop 32 :=
  let c0_i32_23 : BitVec 32 := 0#32
  let c256_i32_24 : BitVec 32 := 256#32
  let v21 : BitVec 32 := Scalar.addi c0_i32_23 c256_i32_24
  let c1_i32_25 : BitVec 32 := 1#32
  ⟨c0_i32_23, v21, c1_i32_25⟩
def k0_off3 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v22 : Index := Scalar.indexCast arg10
  let c0 : Index := 0#32
  ![v22.toNat, 0]
def k0_off4 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v35 : Index := Scalar.indexCast arg10
  let c16 : Index := 16#32
  ![v35.toNat, 16]
def k0_off5 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v48 : Index := Scalar.indexCast arg10
  let c32 : Index := 32#32
  ![v48.toNat, 32]
def k0_off6 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v61 : Index := Scalar.indexCast arg10
  let c48 : Index := 48#32
  ![v61.toNat, 48]
def k0_off7 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v74 : Index := Scalar.indexCast arg10
  let c64 : Index := 64#32
  ![v74.toNat, 64]
def k0_off8 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v87 : Index := Scalar.indexCast arg10
  let c80 : Index := 80#32
  ![v87.toNat, 80]
def k0_off9 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v100 : Index := Scalar.indexCast arg10
  let c96 : Index := 96#32
  ![v100.toNat, 96]
def k0_off10 (k0_t1 : Fin k0_t1_loop.trips) : Fin 2 → Nat :=
  let c0_i32_23 : BitVec 32 := 0#32
  let c1_i32_25 : BitVec 32 := 1#32
  let arg10 : BitVec 32 := Scf.iv c0_i32_23 c1_i32_25 k0_t1
  let v113 : Index := Scalar.indexCast arg10
  let c112 : Index := 112#32
  ![v113.toNat, 112]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_27_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "s" => some ((Real.sqrt 128 : ℝ) : EReal)
  | _ => none
-- ==== ReferenceIdeal.lean ====
abbrev S4x2048 : Shape := ⟨2, ![4, 2048]⟩
abbrev S1000000x128 : Shape := ⟨2, ![1000000, 128]⟩
abbrev S2048x128 : Shape := ⟨2, ![2048, 128]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S4x2048x128 : Shape := ⟨3, ![4, 2048, 128]⟩
abbrev S1x2048x128 : Shape := ⟨3, ![1, 2048, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S1000000x128, .f32⟩
  | .hbm, ⟨2, _⟩ => ⟨S2048x128, .f32⟩
  | .hbm, ⟨3, _⟩ => ⟨S_, .i32⟩
  | .hbm, ⟨4, _⟩ => ⟨S4x2048, .i32⟩
  | .hbm, ⟨5, _⟩ => ⟨S4x2048, .i1⟩
  | .hbm, ⟨6, _⟩ => ⟨S_, .i32⟩
  | .hbm, ⟨7, _⟩ => ⟨S4x2048, .i32⟩
  | .hbm, ⟨8, _⟩ => ⟨S4x2048, .i32⟩
  | .hbm, ⟨9, _⟩ => ⟨S4x2048, .i32⟩
  | .hbm, ⟨10, _⟩ => ⟨S4x2048x1, .i32⟩
  | .hbm, ⟨11, _⟩ => ⟨S1, .i32⟩
  | .hbm, ⟨12, _⟩ => ⟨S_, .i32⟩
  | .hbm, ⟨13, _⟩ => ⟨S4x2048x1, .i32⟩
  | .hbm, ⟨14, _⟩ => ⟨S4x2048x1, .i1⟩
  | .hbm, ⟨15, _⟩ => ⟨S1x1x1, .i32⟩
  | .hbm, ⟨16, _⟩ => ⟨S4x2048x1, .i32⟩
  | .hbm, ⟨17, _⟩ => ⟨S4x2048x1, .i1⟩
  | .hbm, ⟨18, _⟩ => ⟨S4x2048x1, .i1⟩
  | .hbm, ⟨19, _⟩ => ⟨S_, .i1⟩
  | .hbm, ⟨20, _⟩ => ⟨S4x2048, .i1⟩
  | .hbm, ⟨21, _⟩ => ⟨S4x2048x128, .f32⟩
  | .hbm, ⟨22, _⟩ => ⟨S4x2048x128, .i1⟩
  | .hbm, ⟨23, _⟩ => ⟨S_, .f32⟩
  | .hbm, ⟨24, _⟩ => ⟨S4x2048x128, .f32⟩
  | .hbm, ⟨25, _⟩ => ⟨S4x2048x128, .f32⟩
  | .hbm, ⟨26, _⟩ => ⟨S_, .f32⟩
  | .hbm, ⟨27, _⟩ => ⟨S_, .f32⟩
  | .hbm, ⟨28, _⟩ => ⟨S4x2048x128, .f32⟩
  | .hbm, ⟨29, _⟩ => ⟨S4x2048x128, .f32⟩
  | .hbm, ⟨30, _⟩ => ⟨S1x2048x128, .f32⟩
  | .hbm, ⟨31, _⟩ => ⟨S4x2048x128, .f32⟩
  | .hbm, ⟨32, _⟩ => ⟨S4x2048x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Bounds.lean ====
/-
  What the precondition says of the words: each is below 1000000, read as a natural number.
-/
module

public import proofs.«01_k».proof.Defs
public import proofs.«01_k».proof.Proof.Gen.Pre_in_vocab
public import Idealize.ShloMosaic.Lib.ReduceAll
public import Idealize.ShloMosaic.Lib.StableHlo.Predicate

@[expose] public section

noncomputable section

namespace Cert.Bounds

open Idealize.ShloMosaic Cert.Pre_in_vocab Cert.Pre_in_vocab.Gen

/-- A word that compares at least 0 and less than 1000000 as a signed number is below 1000000 as a natural number. -/
theorem word_bound (v : BitVec 32)
    (h : IntOp.andi (IntOp.cmpi .sge v 0#32) (IntOp.cmpi .slt v 1000000#32) = 1#1) : v.toNat < 1000000 := by
  obtain ⟨h0, h1⟩ := IntOp.andi_eq_one.1 h
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

/-- The precondition at any values of the floats: every word is below 1000000. -/
theorem bound {F : FTy → Type} [FloatOps F] (X : IVec S4x2048 32) (T : FVec F S1000000x128 .f32)
    (P : FVec F S2048x128 .f32) (h : Cert.Pre_in_vocab.fn (F := F) X T P = fun _ => 1#1) (j : S4x2048.Idx) : (X j).toNat < 1000000 :=
  haveI : Subsingleton S_.Idx := ⟨fun a b => funext fun i => i.elim0⟩
  word_bound (X j) (Host.reduce_andi_all _ _ _ _ (fun a => a.elim0) (congrFun h _) j)

end Cert.Bounds

end
-- ==== Proof.Streams.lean ====
/-
  Several indirect gathers outstanding on ONE DMA semaphore.

  A gather of `o` rows pays its semaphore row by row. When a second gather is issued on the same semaphore before the
  first has been waited for, no wait but the last can tell which rows have arrived: the semaphore counts units, and
  the units of both gathers are added up. So the rows of all the gathers are treated as ONE counted batch
  (`Transfers.Batch`): row `j` of a gather issued after `k` earlier rows is transfer `k + j` of the batch, and the
  wait that brings the units consumed to the whole sum hands every row back.

  `rowDelivery` is what one row's transfer hands back, `rows_collect` puts the rows of one gather together again (the
  destination written with the gathered rows, the shares of the source and of the list of row numbers), and
  `wp_gatherIntoBatch` is the issue of one gather into a batch.
-/
module

public import Idealize.ShloMosaic.Lib.Batch
public import Idealize.ShloMosaic.Lib.SparseCore.Stream
public import Idealize.SL.ProofMode.BigOp

@[expose] public section

noncomputable section

namespace Cert.Streams

open Idealize.ShloMosaic
open Idealize.SL
open Idealize.SL.BI (sProp Storable bigSep bigSep_insert bigSep_empty)
open scoped Idealize.SL.BI
open Idealize.SL.BI.BIBase Idealize.SL.BI.Laws Idealize.SL.Sem Idealize.SL.ProofMode
open Idealize.SL.RA
open Idealize.ShloMosaic.SparseCore Idealize.ShloMosaic.Transfers

variable {nD : Nat} {τ : Topo} {sig : RefSig} {Ix : Type} [DecidableEq Ix] {F : FTy → Type} {Name : Type} [DecidableEq Name]
variable {U : Type} [URA U] {Lvl : Type} [Preorder Lvl] {Λ : Labels}

local notation "𝕄" => MT nD τ sig Ix (Elt F) Name U Lvl

variable (EC : UEmb Counters (MT nD τ sig Ix (Elt F) Name U Lvl))

/-! ## The issue rights of a run of consecutive transfers -/

section Pending

variable {n : ℕ}

omit [Preorder Lvl] in
/-- What belongs to the transfers from the `k`-th on is what belongs to the next `o` of them and what belongs to the
    transfers from the `(k + o)`-th on. -/
theorem pending_take (Φ : Fin n → sProp 𝕄) (k o : ℕ) (h : k + o ≤ n) :
    bigSep (pending k) Φ
      = iprop(bigSep (Finset.univ : Finset (Fin o)) (fun j => Φ ⟨k + j.val, by omega⟩) ∗ bigSep (pending (k + o)) Φ) := by
  let emb : Fin o ↪ Fin n := ⟨fun j => ⟨k + j.val, by omega⟩, fun a b hab => by
    have := congrArg Fin.val hab; simp only at this; exact Fin.ext (by omega)⟩
  have hsplit : (pending k : Finset (Fin n)) = (Finset.univ.map emb) ∪ pending (k + o) := by
    ext t
    simp only [pending, Finset.mem_filter, Finset.mem_univ, true_and, Finset.mem_union, Finset.mem_map]
    constructor
    · intro hk
      by_cases ht : k + o ≤ t.val
      · exact .inr ht
      · exact .inl ⟨⟨t.val - k, by omega⟩, Fin.ext (by change k + (t.val - k) = t.val; omega)⟩
    · rintro (⟨j, rfl⟩ | ht)
      · change k ≤ k + j.val; omega
      · omega
  have hdis : Disjoint (Finset.univ.map emb) (pending (k + o) : Finset (Fin n)) := by
    rw [Finset.disjoint_left]
    rintro t ht ht'
    obtain ⟨j, -, rfl⟩ := Finset.mem_map.mp ht
    have h2 : k + o ≤ k + j.val := (Finset.mem_filter.mp ht').2
    omega
  rw [hsplit, BI.bigSep_union hdis, BI.bigSep_map]
  rfl

end Pending

/-! ## The rows of one gather -/

variable (c : Thread nD τ) {sp : Space} {s₀ s si : Shape} {e : EltTy} {a : Nat}

section Rows

variable (src : Memref sig c.2.kind sp s₀ e) (dst : Memref sig c.2.kind .vmem s e) (hg : s₀.Gathers a s)
variable (offs : Memref sig c.2.kind .vmem si .i32) (hn : si.numel = s.size hg.axis') (ho : 0 < s.size hg.axis')
variable (q qo : PosShare TreeShare) (fs : Buf (Elt F) (src.view.loc c)) (fd : Buf (Elt F) (dst.view.loc c))
variable (fo : Buf (Elt F) (offs.view.loc c)) (hin : ∀ x, (offs.view.read (Elt F) fo x).toNat < s₀.size hg.axis)

/-- Where the `j`-th entry of the list of row numbers stands in the list. -/
abbrev entryAt (j : Fin (s.size hg.axis')) : si.Idx := si.rowMajor.symm (j.cast hn.symm)

/-- The gathered values of the whole destination: row `j` is the source's row whose number is the list's `j`-th word. -/
abbrev gathered : s.Idx → Elt F e := gatherPayload hg (src.view.read (Elt F) fs) (rows (offs.view.read (Elt F) fo) hn hin)

/-- What row `j`'s transfer uses beside its destination row: the `j`-th entry of the list and a piece of the source's
    share. -/
def rowReads (j : Fin (s.size hg.axis')) : sProp 𝕄 :=
  iprop((offs.view.loc c ↦[{offs.view.emb (entryAt hg hn j)}]{qo} fo) ∗ (src.view.loc c ↦[src.view.set]{pieceOf q _ ho j} fs))

/-- What row `j`'s transfer is handed: the destination's row `j` as it was, and what it reads. -/
def rowTaken (j : Fin (s.size hg.axis')) : sProp 𝕄 :=
  iprop((dst.view.loc c ↦[(dst.view.slice (s.rowRect hg.axis' j)).set]{fullShare} fd) ∗ rowReads c src hg offs hn ho q qo fs fo j)

/-- What row `j`'s transfer hands back: the destination's row `j` holding the gathered row, and what it read. -/
def rowDelivery (j : Fin (s.size hg.axis')) : sProp 𝕄 :=
  iprop((dst.view.loc c ↦[(dst.view.slice (s.rowRect hg.axis' j)).set]{fullShare}
      ((dst.view.slice (s.rowRect hg.axis' j)).write (Elt F) fd
        (fun i => gathered c src hg offs hn fs fo hin ((s.rowRect hg.axis' j).emb i)) Finset.univ))
    ∗ rowReads c src hg offs hn ho q qo fs fo j)

instance rowDelivery_storable (j : Fin (s.size hg.axis')) :
    Storable (upEmb : UEmb _ 𝕄) (rowDelivery (Ix := Ix) (Name := Name) (U := U) (Lvl := Lvl) c src dst hg offs hn ho q qo fs fd fo hin j) := by
  unfold rowDelivery rowReads; infer_instance

omit [DecidableEq Ix] [DecidableEq Name] [URA U] [Preorder Lvl] in
/-- The entries of the list stand one at each place of it. -/
theorem entryAt_bijective : Function.Bijective (entryAt (si := si) hg hn) :=
  si.rowMajor.symm.bijective.comp (finCongr hn.symm).bijective

omit [Preorder Lvl] in
/-- The list's share and the source's share are what the rows read, row by row. -/
theorem rowReads_all :
    iprop((offs.view.loc c ↦[offs.view.set]{qo} fo) ∗ (src.view.loc c ↦[src.view.set]{q} fs))
      = (bigSep Finset.univ (rowReads c src hg offs hn ho q qo fs fo) : sProp 𝕄) := by
  unfold rowReads
  rw [BI.bigSep_sep', pointsTo_entries c offs.view (entryAt hg hn) (entryAt_bijective hg hn) qo fo,
    pointsTo_piecesOf (src.view.set) fs ho q]

omit [Preorder Lvl] in
/-- The destination, the list's share and the source's share are what the rows' transfers take. -/
theorem rowTaken_all :
    iprop((dst.view.loc c ↦[dst.view.set]{fullShare} fd) ∗ (offs.view.loc c ↦[offs.view.set]{qo} fo) ∗ (src.view.loc c ↦[src.view.set]{q} fs))
      = (bigSep Finset.univ (rowTaken c src dst hg offs hn ho q qo fs fd fo) : sProp 𝕄) := by
  unfold rowTaken
  rw [BI.bigSep_sep', ← rowReads_all, pointsTo_rows c dst.view hg.axis' fullShare fd]

omit [Preorder Lvl] in
/-- All the rows handed back are the destination written with the gathered rows, the list's share and the source's. -/
theorem rows_collect :
    (bigSep Finset.univ (rowDelivery c src dst hg offs hn ho q qo fs fd fo hin) : sProp 𝕄)
      ⊢ iprop((dst.view.loc c ↦[dst.view.set]{fullShare} (dst.view.write (Elt F) fd (gathered c src hg offs hn fs fo hin) Finset.univ))
          ∗ (offs.view.loc c ↦[offs.view.set]{qo} fo) ∗ (src.view.loc c ↦[src.view.set]{q} fs)) := by
  unfold rowDelivery
  rw [BI.bigSep_sep', ← rowReads_all]
  refine sep_mono ?_ .rfl
  exact pointsTo_rows_write c dst.view hg.axis' fd _ _ fun _ _ => rfl

end Rows

/-! ## The issue of one gather into a batch -/

variable {defs : Defs nD τ sig (Elt F) Λ} (𝒱 : Variants) (bd : Option 𝒱.V) {α : Type} {Q : α → sProp (MT nD τ sig Ix (Elt F) Name U Lvl)}

/-- `enqueueIndirectGather` at the head of a program, its rows the transfers `k`, …, `k + o - 1` of a batch of `n`
    transfers of `K` units each: holding a share of the source, the destination outright, a share of the list, whose
    words are all in range, and the batch with `k` transfers issued, the thread issues the gather and continues with the
    batch with `k + o` issued. The batch's `k + j`-th delivery is (at least) what row `j` hands back (`hD`). -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {m u : ℕ} (ι : Ix) (K : ℕ)
    (hK : ∀ j, (dst.slice (s.rowRect hg.axis' j) (s.stride_rowRect hg.axis' j)).view.dmaCredit = K)
    (ho : 0 < s.size hg.axis') (hin : ∀ x, (offs.view.read (Elt F) fo x).toNat < s₀.size hg.axis)
    (hm : m + s.size hg.axis' ≤ n) (hu : u ≤ m * K)
    (hD : ∀ j, rowDelivery c src dst hg offs hn ho q qo fs fd fo hin j ⊢ D ⟨m + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι K D m u)
      ⊢ iprop((Batch EC c (.dma sem) ι K D (m + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  unfold Batch
  -- the transfer of row `j`, its source row chosen by the list's word
  let rd : Fin (s.size hg.axis') → RowDma τ sig (Elt F) c.2 sem := fun j =>
    gatherRow c src dst hg sem hsrc he hsp hr j (rows (offs.view.read (Elt F) fo) hn hin j)
  -- two row transfers of one entry go to the same destination row
  have hA : (Stream.issued c offs.view hn sem (fun j (w : Elt F .i32) => (rowOf (s₀.size hg.axis) w).map (gatherRow c src dst hg sem hsrc he hsp hr j)) 0).RowsAgree := by
    intro j x x' ρ ρ' h h'
    obtain ⟨_, -, rfl⟩ := Option.map_eq_some_iff.mp h
    obtain ⟨_, -, rfl⟩ := Option.map_eq_some_iff.mp h'
    rfl
  have hpay : ∀ j, (fun i => src.view.read (Elt F) fs (hg.rowIdx (rows (offs.view.read (Elt F) fo) hn hin j) i))
      = fun i => gathered c src hg offs hn fs fo hin ((s.rowRect hg.axis' j).emb i) := fun j => by
    funext i; unfold gathered gatherPayload; rw [Shape.Gathers.idx_rowRect_emb]
  iintro ⟨Hs, Hd, Ho, ⟨%γ, %γ₀, %κ, #Hinv, HI, H0, Hcred⟩⟩ Hk
  ihave HI' := (Entails.of_eq (pending_take (fun t => count EC (γ t) 0) m (s.size hg.axis') hm)) $$ HI
  icases HI' with ⟨Hnow, Hlater⟩
  ihave Hrows := (Entails.of_eq (rowTaken_all c src dst hg offs hn ho q qo fs fd fo)) $$ [Hd Ho Hs]
  · isplitl [Hd]; · iexact Hd
    isplitl [Ho] <;> iassumption
  iapply (wp_enqueueIndirectDma 𝒱 c bd Set.univ (qo := qo) (fo := fo) (rd := rd) ι (s.size hg.axis' * K) hA
    (fun j => by
      change (rowOf (s₀.size hg.axis) (offs.view.read (Elt F) fo (entryAt hg hn j))).map _ = _
      rw [rowOf_of_lt (hin _)]; rfl)
    (sum_rowCredit_eq _ hK rfl)) $$ [Hrows Hnow]
  · -- row by row: the entry's share is lent, and with it back the row's transfer has everything it needs
    have hrow : ∀ j, iprop(inv κ (batchBody EC (c, SemLoc.dma sem) K D γ γ₀)
          ∗ (rowTaken c src dst hg offs hn ho q qo fs fd fo j ∗ count EC (γ ⟨m + j.val, by omega⟩) 0))
        ⊢ iprop((offs.view.loc c ↦[{offs.view.emb (entryAt hg hn j)}]{qo} fo)
            ∗ ((offs.view.loc c ↦[{offs.view.emb (entryAt hg hn j)}]{qo} fo) -∗ rowRes c (rd j))) := fun j => by
      unfold rowTaken rowReads
      iintro ⟨#Hinv, ⟨⟨Hr, He, Hsq⟩, Hγ⟩⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
        ∗ (offs.view.loc c ↦[{offs.view.emb (entryAt hg hn j)}]{qo} fo))
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcr : (rd j).dst.view.amount (.dma sem) = K := hK j
        rw [hcr]
        iapply (batch_creditUpdate EC (N := K) (D := D) (γ := γ) (γ₀ := γ₀) (ι := κ) ⟨m + j.val, by omega⟩ (by
          refine Entails.trans ?_ (hD j)
          unfold rowDelivery rowReads
          rw [← hpay j]
          iintro ⟨⟨Hr, He⟩, Hsq⟩
          isplitl [Hr]; · iexact Hr
          isplitl [He] <;> iassumption))
        isplitr; · iexact Hinv
        iexact Hγ
    unfold Stream.res
    iapply (bigSep_mono_pers Finset.univ _ _ _ fun j _ => hrow j)
    isplitr; · iexact Hinv
    iapply (bigSep_sep_in Finset.univ (rowTaken c src dst hg offs hn ho q qo fs fd fo) fun j => count EC (γ ⟨m + j.val, by omega⟩) 0)
    isplitl [Hrows] <;> iassumption
  · iintro Hcred'
    iapply Hk
    iexists γ, γ₀, κ
    isplitr; · iexact Hinv
    isplitl [Hlater]; · iexact Hlater
    isplitl [H0]; · iexact H0
    rw [show (m + s.size hg.axis') * K - u = (m * K - u) + s.size hg.axis' * K by rw [Nat.add_mul]; omega, ← tallyAt_add]
    icombine Hcred Hcred' as H
    iexact H

end Cert.Streams

end
-- ==== Proof.Rows.lean ====
/-
  What the program computes, as plain functions of the word array, the table and the position rows, and the states the
  row buffer of one tile goes through.

  The output has 8192 rows of 128 numbers. Row `r` is the table's row named by word `r`, times a scale, plus position
  row `r mod 2048` (`result`). Tile `w` of the 32 computes rows `256 w`, …, `256 w + 255`: it gathers the table's rows
  (`gatheredRows`), and then overwrites them, row by row and sixteen lanes at a time, by the finished rows
  (`doneRows`). `partly t k` is the buffer when the rows before `t`, and the first `k` lanes of row `t`, are finished.
-/
module

public import Idealize.ShloMosaic.Lib.ValueLayout
public import Idealize.ShloMosaic.Lib.ValueIdxCore
public import Idealize.ShloMosaic.PureOps.Vector

@[expose] public section

noncomputable section

namespace Cert.Rows

open Idealize.ShloMosaic
open Idealize.ShloMosaic.ValueIdx (ix1 ix2)

variable {F : FTy → Type} [FloatOps F]

/-- The shapes: the words, the table, the position rows, the output, a tile's rows, sixteen lanes of one row, and the
    same lanes as a vector. -/
abbrev Words : Shape := ⟨2, ![64, 128]⟩
abbrev Table : Shape := ⟨2, ![1000000, 128]⟩
abbrev Posns : Shape := ⟨2, ![2048, 128]⟩
abbrev Out : Shape := ⟨2, ![8192, 128]⟩
abbrev Tile : Shape := ⟨2, ![256, 128]⟩
abbrev Lanes : Shape := ⟨2, ![1, 16]⟩
abbrev Lanes₁ : Shape := ⟨1, ![16]⟩

/-! ## The result -/

/-- The table's row that a word names. -/
def tableRow (w : BitVec 32) : Fin 1000000 := ⟨w.toNat % 1000000, Nat.mod_lt _ (by omega)⟩

/-- The word of output row `r`: the words are laid out 128 to a row. -/
def wordAt (X : Words.Idx → BitVec 32) (r : Fin 8192) : BitVec 32 :=
  X (ix2 ⟨r.val / 128, by omega⟩ ⟨r.val % 128, Nat.mod_lt _ (by omega)⟩)

/-- The position row of output row `r`. -/
def posRow (r : Fin 8192) : Fin 2048 := ⟨r.val % 2048, Nat.mod_lt _ (by omega)⟩

/-- One number of the result from the table's number `a` and the position's number `b`: `a` times the scale, plus `b`. -/
def scaled (s a b : F .f32) : F .f32 := FloatOps.addf (FloatOps.mulf a s) b

variable (s : F .f32) (X : Words.Idx → BitVec 32) (T : Table.Idx → F .f32) (P : Posns.Idx → F .f32)

/-- The whole output. -/
def result : Out.Idx → F .f32 := fun y =>
  scaled s (T (ix2 (tableRow (wordAt X (y 0))) (y 1))) (P (ix2 (posRow (y 0)) (y 1)))

/-! ## One tile's rows -/

/-- Row `r` of tile `w` is this row of the output. -/
def tileRow (w : Fin 32) (r : Fin 256) : Fin 8192 := ⟨256 * w.val + r.val, by omega⟩

/-- The table's rows that tile `w` gathers. -/
def gatheredRows (w : Fin 32) : Tile.Idx → F .f32 := fun y => T (ix2 (tableRow (wordAt X (tileRow w (y 0)))) (y 1))

/-- The position rows that tile `w` fetches. -/
def posRows (w : Fin 32) : Tile.Idx → F .f32 := fun y => P (ix2 (posRow (tileRow w (y 0))) (y 1))

/-- The finished rows, from the gathered rows `g` and the position rows `p`. -/
def doneRows (g p : Tile.Idx → F .f32) : Tile.Idx → F .f32 := fun y => scaled s (g y) (p y)

/-- The finished rows of tile `w` are the output's rows. -/
theorem doneRows_eq_result (w : Fin 32) (y : Tile.Idx) :
    doneRows s (gatheredRows X T w) (posRows P w) y = result s X T P (ix2 (tileRow w (y 0)) (y 1)) := rfl

/-! ## The row buffer between -/

/-- The row buffer when the rows before `t` and the first `k` lanes of row `t` are finished. -/
def partly (g p : Tile.Idx → F .f32) (t k : ℕ) : Tile.Idx → F .f32 := fun y =>
  if (y 0).val < t ∨ ((y 0).val = t ∧ (y 1).val < k) then doneRows s g p y else g y

/-- Sixteen lanes of the result from sixteen lanes of the gathered row `v` and of the position row `w`. -/
def block (v w : Lanes.Idx → F .f32) : Lanes.Idx → F .f32 := fun i => scaled s (v i) (w i)

variable (g p : Tile.Idx → F .f32)

theorem partly_start : partly s g p 0 0 = g := by
  funext y; unfold partly; rw [if_neg]; omega

theorem partly_end : partly s g p 256 0 = doneRows s g p := by
  funext y; unfold partly; rw [if_pos]
  have h : (y 0).val < 256 := (y 0).isLt
  exact .inl h

/-- A row whose 128 lanes are finished is finished. -/
theorem partly_row (t : ℕ) : partly s g p t 128 = partly s g p (t + 1) 0 := by
  funext y; unfold partly
  have h : (y 1).val < 128 := (y 1).isLt
  refine if_congr ?_ rfl rfl
  omega

section Window

variable {t k : ℕ} {off : Fin 2 → ℕ} (hoff : off = ![t, k]) (inb : ∀ a, off a + Lanes.size a ≤ Tile.size a)

include hoff in
/-- Within the sixteen lanes from lane `k` of row `t`, the buffer finished as far as lane `k` turns, lane by lane, into
    the buffer finished as far as lane `k + 16`. -/
theorem partly_hit (i : (Rect.unit (s := Tile) off Lanes.size inb).shape.Idx) :
    block s (fun i => partly s g p t k ((Rect.unit (s := Tile) off Lanes.size inb).emb i))
        (fun i => p ((Rect.unit (s := Tile) off Lanes.size inb).emb i)) i
      = partly s g p t (k + 16) ((Rect.unit (s := Tile) off Lanes.size inb).emb i) := by
  subst hoff
  have h0 : (((Rect.unit (s := Tile) ![t, k] Lanes.size inb).emb i) 0).val = t := by
    have : (i 0).val < 1 := (i 0).isLt
    show t + 1 * (i 0).val = t
    omega
  have h1 : (((Rect.unit (s := Tile) ![t, k] Lanes.size inb).emb i) 1).val = k + (i 1).val := by
    show k + 1 * (i 1).val = _
    omega
  have hi : (i 1).val < 16 := (i 1).isLt
  unfold block partly
  beta_reduce
  rw [h0, h1, if_neg (by omega), if_pos (by omega)]
  rfl

include hoff in
/-- Outside those lanes nothing changes. -/
theorem partly_miss {y : Tile.Idx} (hy : y ∉ (Rect.unit (s := Tile) off Lanes.size inb).set) :
    partly s g p t k y = partly s g p t (k + 16) y := by
  subst hoff
  unfold partly
  refine if_congr ⟨fun h => by omega, fun h => ?_⟩ rfl rfl
  by_contra hn
  refine hy (Rect.mem_set_unit.mpr fun a => ?_)
  match a with
  | ⟨0, _⟩ => exact ⟨show t ≤ (y 0).val by omega, show (y 0).val < t + 1 by omega⟩
  | ⟨1, _⟩ => exact ⟨show k ≤ (y 1).val by omega, show (y 1).val < k + 16 by omega⟩

end Window

/-- The program's own form of a block — the lanes taken as vectors, scaled, added, and put back as a row — is `block`. -/
theorem block_eq (v w : Lanes.Idx → F .f32) (h : Lanes.ShapeCasts Lanes₁) (h' : Lanes₁.ShapeCasts Lanes) :
    shapeCast Lanes (addf (mulf (shapeCast Lanes₁ v h) (broadcast Lanes₁ s)) (shapeCast Lanes₁ w h) : FVec F Lanes₁ .f32) h'
      = block s v w := by
  funext i
  obtain ⟨u, j, rfl⟩ : ∃ (u : Fin 1) (j : Fin 16), i = ix2 u j := ⟨i 0, i 1, by funext a; match a with | ⟨0, _⟩ => rfl | ⟨1, _⟩ => rfl⟩
  rw [ValueIdx.shapeCast_a_1a_apply]
  show scaled s (shapeCast Lanes₁ v h (ix1 j)) (shapeCast Lanes₁ w h (ix1 j)) = _
  rw [ValueIdx.shapeCast_1a_a_apply, ValueIdx.shapeCast_1a_a_apply, Subsingleton.elim (0 : Fin 1) u]
  rfl

end Cert.Rows

end
-- ==== Proof.IdealViews.lean ====
/-
  The program as the launch theorem sees it, and the arrays as one tile of the vector subcores addresses them.

  Tile `(c, s)` is number `w = 2 s + c` of 32. It reads rows `2 w`, `2 w + 1` of the words, 256 position rows from row
  `256 w mod 2048` on, the whole table, and writes rows `256 w`, …, `256 w + 255` of the output. Its row buffer is
  filled by two gathers of 128 rows; the two lists of row numbers are the two rows of its word buffer.

  Each view lemma says which elements a slice names (`set_…`) or what is read through it (`read_…`).
-/
module

public import proofs.«01_k».proof.Defs
public import proofs.«01_k».proof.Proof.Streams
public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tiles

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and belong to no scope, and no array is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the handshakes' rounds, and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The words, the table, the position rows and the output on device `d`. -/
abbrev wLoc (d : Dev nD) : Loc nD τ sig := (SparseCore.T d).loc main_v0
abbrev tLoc (d : Dev nD) : Loc nD τ sig := (SparseCore.T d).loc main_arg1
abbrev pLoc (d : Dev nD) : Loc nD τ sig := (SparseCore.T d).loc main_arg2
abbrev oLoc (d : Dev nD) : Loc nD τ sig := (SparseCore.T d).loc main_v1

abbrev wV : Memref sig .scVector .hbm S64x128 .i32 := Memref.whole main_v0_scv
abbrev tV : Memref sig .scVector .hbm S1000000x128 .f32 := Memref.whole main_arg1_scv
abbrev pV : Memref sig .scVector .hbm S2048x128 .f32 := Memref.whole main_arg2_scv
abbrev oV : Memref sig .scVector .hbm S8192x128 .f32 := Memref.whole main_v1_scv
/-- A tile's word buffer, row buffer and position buffer. -/
abbrev wB : Memref sig .scVector .vmem S2x128 .i32 := Memref.whole cc0_scratch0
abbrev rB : Memref sig .scVector .vmem S256x128 .f32 := Memref.whole cc0_scratch1
abbrev pB : Memref sig .scVector .vmem S256x128 .f32 := Memref.whole cc0_scratch2

/-! ## One tile -/

section Tile

variable (d : Dev nD) (L : grid0.Coords)

abbrev cV : Fin τ.nSC := (L 0).castLE hcore0
abbrev jV : Fin τ.nSub := (L 1).castLE hsub0

theorem core_lt : (L 0).val < 2 := (L 0).isLt
theorem sub_lt : (L 1).val < 16 := (L 1).isLt

/-- The tile's number. -/
def num : Fin 32 := ⟨2 * (L 1).val + (L 0).val, by have := core_lt L; have := sub_lt L; omega⟩

/-- The words and the output rows of tile `w`. -/
def wordsOf (w : Fin 32) : Finset S64x128.Idx := Finset.univ.filter fun y => (y 0).val / 2 = w.val
def rowsOf (w : Fin 32) : Finset S8192x128.Idx := Finset.univ.filter fun y => (y 0).val / 256 = w.val

/-- The slices the tile's transfers name: its words, its position rows, its output rows, the whole table, -/
abbrev wK : Memref sig .scVector .hbm S2x128 .i32 := wV.slice (Rect.unit (s := S64x128) (k0_off1 L) S2x128.size (k0_off1_inb L)) (fun _ => rfl)
abbrev pK : Memref sig .scVector .hbm S256x128 .f32 := pV.slice (Rect.unit (s := S2048x128) (k0_off2 L) S256x128.size (k0_off2_inb L)) (fun _ => rfl)
abbrev oK : Memref sig .scVector .hbm S256x128 .f32 := oV.slice (Rect.unit (s := S8192x128) (k0_off11 L) S256x128.size (k0_off11_inb L)) (fun _ => rfl)
abbrev tK : Memref sig .scVector .hbm S1000000x128 .f32 :=
  tV.slice (Rect.unit (s := S1000000x128) ![0, 0] S1000000x128.size inb_S1000000x128_S1000000x128_0_0) (fun _ => rfl)
/-- the two halves of its row buffer, -/
abbrev rK₀ : Memref sig .scVector .vmem S128x128 .f32 := rB.slice (Rect.unit (s := S256x128) ![0, 0] S128x128.size inb_S256x128_S128x128_0_0) (fun _ => rfl)
abbrev rK₁ : Memref sig .scVector .vmem S128x128 .f32 := rB.slice (Rect.unit (s := S256x128) ![128, 0] S128x128.size inb_S256x128_S128x128_128_0) (fun _ => rfl)
/-- and the two rows of its word buffer, as lists. -/
abbrev lK₀ : Memref sig .scVector .vmem S128 .i32 :=
  (wB.slice (Rect.unit (s := S2x128) ![0, 0] S1x128.size inb_S2x128_S1x128_0_0) (fun _ => rfl)).squeeze S128 squeezes_S1x128_S128
abbrev lK₁ : Memref sig .scVector .vmem S128 .i32 :=
  (wB.slice (Rect.unit (s := S2x128) ![1, 0] S1x128.size inb_S2x128_S1x128_1_0) (fun _ => rfl)).squeeze S128 squeezes_S1x128_S128

/-! ### Which elements they name -/

theorem set_wK : (wK L).view.set = wordsOf (num L) := by
  refine (View.set_slice _ _).trans (Finset.map_refl.trans ?_)
  ext y
  have h1 : (y 1).val < 128 := (y 1).isLt
  have hn : (num L).val = 2 * (L 1).val + (L 0).val := rfl
  rw [Rect.mem_set_unit, k0_off1_eq, wordsOf, Finset.mem_filter, Fin.forall_fin_two]
  simp only [Finset.mem_univ, true_and, Matrix.cons_val_zero, Matrix.cons_val_one]
  show (4 * (L 1).val + 2 * (L 0).val ≤ (y 0).val ∧ (y 0).val < 4 * (L 1).val + 2 * (L 0).val + 2) ∧ (0 ≤ (y 1).val ∧ (y 1).val < 0 + 128) ↔ _
  omega

theorem set_oK : (oK L).view.set = rowsOf (num L) := by
  refine (View.set_slice _ _).trans (Finset.map_refl.trans ?_)
  ext y
  have h1 : (y 1).val < 128 := (y 1).isLt
  have hn : (num L).val = 2 * (L 1).val + (L 0).val := rfl
  rw [Rect.mem_set_unit, k0_off11_eq, rowsOf, Finset.mem_filter, Fin.forall_fin_two]
  simp only [Finset.mem_univ, true_and, Matrix.cons_val_zero, Matrix.cons_val_one]
  show (512 * (L 1).val + 256 * (L 0).val ≤ (y 0).val ∧ (y 0).val < 512 * (L 1).val + 256 * (L 0).val + 256) ∧ (0 ≤ (y 1).val ∧ (y 1).val < 0 + 128) ↔ _
  omega

theorem set_rK₀ : (rK₀).view.set = Finset.univ.filter fun y : S256x128.Idx => (y 0).val < 128 := by
  refine (View.set_slice _ _).trans (Finset.map_refl.trans ?_)
  ext y
  have h1 : (y 1).val < 128 := (y 1).isLt
  rw [Rect.mem_set_unit, Finset.mem_filter, Fin.forall_fin_two]
  simp only [Finset.mem_univ, true_and, Matrix.cons_val_zero, Matrix.cons_val_one]
  show (0 ≤ (y 0).val ∧ (y 0).val < 0 + 128) ∧ (0 ≤ (y 1).val ∧ (y 1).val < 0 + 128) ↔ _
  omega

theorem set_rK₁ : (rK₁).view.set = Finset.univ.filter fun y : S256x128.Idx => 128 ≤ (y 0).val := by
  refine (View.set_slice _ _).trans (Finset.map_refl.trans ?_)
  ext y
  have h0 : (y 0).val < 256 := (y 0).isLt
  have h1 : (y 1).val < 128 := (y 1).isLt
  rw [Rect.mem_set_unit, Finset.mem_filter, Fin.forall_fin_two]
  simp only [Finset.mem_univ, true_and, Matrix.cons_val_zero, Matrix.cons_val_one]
  show (128 ≤ (y 0).val ∧ (y 0).val < 128 + 128) ∧ (0 ≤ (y 1).val ∧ (y 1).val < 0 + 128) ↔ _
  omega

/-- The second half of the row buffer is what the first leaves. -/
theorem set_rest : (Finset.univ : Finset S256x128.Idx) \ (rK₀).view.set = (rK₁).view.set := by
  rw [set_rK₀, set_rK₁]
  ext y
  simp only [Finset.mem_sdiff, Finset.mem_filter, Finset.mem_univ, true_and, not_lt]

/-! ### What is read through them -/

/-- The tile's words are the words of its rows. -/
theorem read_wK (X : S64x128.Idx → BitVec 32) (a : Fin 2) (b : Fin 128) :
    (wK L).view.read (Elt F) X (ix2 a b) = Rows.wordAt X (Rows.tileRow (num L) ⟨128 * a.val + b.val, by omega⟩) := by
  show X ((Rect.unit (s := S64x128) (k0_off1 L) S2x128.size (k0_off1_inb L)).emb (ix2 a b)) = X _
  congr 1
  have hn : (num L).val = 2 * (L 1).val + (L 0).val := rfl
  funext i
  apply Fin.ext
  match i with
  | ⟨0, _⟩ =>
    show k0_off1 L 0 + 1 * a.val = (256 * (num L).val + (128 * a.val + b.val)) / 128
    rw [k0_off1_eq]; simp only [Matrix.cons_val_zero]; omega
  | ⟨1, _⟩ =>
    show k0_off1 L 1 + 1 * b.val = (256 * (num L).val + (128 * a.val + b.val)) % 128
    rw [k0_off1_eq]; show 0 + 1 * b.val = _; omega

/-- The tile's position rows. -/
theorem read_pK (P : S2048x128.Idx → F .f32) : (pK L).view.read (Elt F) P = Rows.posRows P (num L) := by
  funext y
  have h0 : (y 0).val < 256 := (y 0).isLt
  have hn : (num L).val = 2 * (L 1).val + (L 0).val := rfl
  show P ((Rect.unit (s := S2048x128) (k0_off2 L) S256x128.size (k0_off2_inb L)).emb y) = P _
  congr 1
  funext i
  apply Fin.ext
  have := core_lt L
  have := sub_lt L
  match i with
  | ⟨0, _⟩ =>
    show k0_off2 L 0 + 1 * (y 0).val = (256 * (num L).val + (y 0).val) % 2048
    rw [k0_off2_eq]; simp only [Matrix.cons_val_zero]; omega
  | ⟨1, _⟩ =>
    show k0_off2 L 1 + 1 * (y 1).val = (y 1).val
    rw [k0_off2_eq]; show 0 + 1 * (y 1).val = _; omega

/-- The place of the tile's row in the output. -/
theorem emb_oK (y : S256x128.Idx) : (oK L).view.emb y = ix2 (Rows.tileRow (num L) (y 0)) (y 1) := by
  have hn : (num L).val = 2 * (L 1).val + (L 0).val := rfl
  funext i
  apply Fin.ext
  match i with
  | ⟨0, _⟩ =>
    show k0_off11 L 0 + 1 * (y 0).val = 256 * (num L).val + (y 0).val
    rw [k0_off11_eq]; simp only [Matrix.cons_val_zero]; omega
  | ⟨1, _⟩ =>
    show k0_off11 L 1 + 1 * (y 1).val = (y 1).val
    rw [k0_off11_eq]; show 0 + 1 * (y 1).val = _; omega

/-- The `j`-th entry of a list is the `j`-th word of its row of the word buffer. -/
theorem read_lK₀ (f : S2x128.Idx → BitVec 32) (j : Fin 128) : (lK₀).view.read (Elt F) f (ix1 j) = f (ix2 0 j) := by
  show f ((Rect.unit (s := S2x128) ![0, 0] S1x128.size inb_S2x128_S1x128_0_0).emb (Shape.reshapeEquiv squeezes_S1x128_S128.numel_eq (ix1 j))) = _
  rw [Shape.reshapeEquiv_eq_of_rowMajor squeezes_S1x128_S128.numel_eq (x := ix1 j) (y := ix2 (0 : Fin 1) j) (by
    rw [Shape.rowMajor_val_two, Shape.rowMajor_val_one]; show 0 * 128 + j.val = j.val; omega)]
  congr 1
  funext i
  apply Fin.ext
  match i with
  | ⟨0, _⟩ => rfl
  | ⟨1, _⟩ => show 0 + 1 * j.val = j.val; omega

theorem read_lK₁ (f : S2x128.Idx → BitVec 32) (j : Fin 128) : (lK₁).view.read (Elt F) f (ix1 j) = f (ix2 1 j) := by
  show f ((Rect.unit (s := S2x128) ![1, 0] S1x128.size inb_S2x128_S1x128_1_0).emb (Shape.reshapeEquiv squeezes_S1x128_S128.numel_eq (ix1 j))) = _
  rw [Shape.reshapeEquiv_eq_of_rowMajor squeezes_S1x128_S128.numel_eq (x := ix1 j) (y := ix2 (0 : Fin 1) j) (by
    rw [Shape.rowMajor_val_two, Shape.rowMajor_val_one]; show 0 * 128 + j.val = j.val; omega)]
  congr 1
  funext i
  apply Fin.ext
  match i with
  | ⟨0, _⟩ => rfl
  | ⟨1, _⟩ => show 0 + 1 * j.val = j.val; omega

/-- The table read whole is the table. -/
theorem read_tK (T : S1000000x128.Idx → F .f32) : (tK).view.read (Elt F) T = T := by
  funext y
  show T ((Rect.unit (s := S1000000x128) ![0, 0] S1000000x128.size inb_S1000000x128_S1000000x128_0_0).emb y) = T y
  congr 1
  funext i
  apply Fin.ext
  match i with
  | ⟨0, _⟩ => show 0 + 1 * (y 0).val = (y 0).val; omega
  | ⟨1, _⟩ => show 0 + 1 * (y 1).val = (y 1).val; omega

/-! ### What the gathers bring -/

section Gathered

variable (X : S64x128.Idx → BitVec 32) (Tb : S1000000x128.Idx → F .f32)

theorem words_lK₀ (j : S128.Idx) : (lK₀).view.read (Elt F) ((wK L).view.read (Elt F) X) j = Rows.wordAt X (Rows.tileRow (num L) ⟨(j 0).val, by have : (j 0).val < 128 := (j 0).isLt; omega⟩) := by
  obtain ⟨k, rfl⟩ : ∃ k : Fin 128, j = ix1 k := ⟨j 0, by funext a; match a with | ⟨0, _⟩ => rfl⟩
  rw [read_lK₀, read_wK]
  congr 2
  apply Fin.ext
  show 128 * 0 + k.val = k.val
  omega

theorem words_lK₁ (j : S128.Idx) : (lK₁).view.read (Elt F) ((wK L).view.read (Elt F) X) j = Rows.wordAt X (Rows.tileRow (num L) ⟨128 + (j 0).val, by have : (j 0).val < 128 := (j 0).isLt; omega⟩) := by
  obtain ⟨k, rfl⟩ : ∃ k : Fin 128, j = ix1 k := ⟨j 0, by funext a; match a with | ⟨0, _⟩ => rfl⟩
  rw [read_lK₁, read_wK]
  rfl

variable (hX : ∀ j, (X j).toNat < 1000000)

include hX in
theorem inb_lK₀ : ∀ j, ((lK₀).view.read (Elt F) ((wK L).view.read (Elt F) X) j).toNat < S1000000x128.size gathers_S1000000x128_S128x128.axis := by
  intro j; rw [words_lK₀]; exact hX _

include hX in
theorem inb_lK₁ : ∀ j, ((lK₁).view.read (Elt F) ((wK L).view.read (Elt F) X) j).toNat < S1000000x128.size gathers_S1000000x128_S128x128.axis := by
  intro j; rw [words_lK₁]; exact hX _

/-- A gather whose list's `j`-th word is the word of row `r j` of the tile brings the table's row of that word. -/
theorem gathered_row (l : S128.Idx → BitVec 32) (hl : ∀ j, (l j).toNat < S1000000x128.size gathers_S1000000x128_S128x128.axis)
    (i : S128x128.Idx) (r : Fin 256) (hr : ∀ j : S128.Idx, (j 0).val = (i 0).val → l j = Rows.wordAt X (Rows.tileRow (num L) r)) :
    SparseCore.gatherPayload (F := F) (e := .f32) gathers_S1000000x128_S128x128 Tb (SparseCore.rows (F := F) l rfl hl) i
      = Rows.gatheredRows X Tb (num L) (ix2 r (i 1)) := by
  unfold SparseCore.gatherPayload Rows.gatheredRows
  congr 1
  funext a
  apply Fin.ext
  match a with
  | ⟨0, _⟩ =>
    have e := congrArg Fin.val (gathers_S1000000x128_S128x128.idx_axis (SparseCore.rows (F := F) l rfl hl) i)
    refine Eq.trans e ?_
    have hw : l (S128.rowMajor.symm ((i 0).cast rfl)) = Rows.wordAt X (Rows.tileRow (num L) r) := hr _ (by
      have := Shape.rowMajor_val_one (S128.rowMajor.symm ((i 0).cast rfl))
      rw [Equiv.apply_symm_apply] at this
      exact this.symm)
    have hlt := hl (S128.rowMajor.symm ((i 0).cast rfl))
    show (l (S128.rowMajor.symm ((i 0).cast rfl))).toNat = (Rows.wordAt X (Rows.tileRow (num L) r)).toNat % 1000000
    rw [hw] at hlt ⊢
    exact (Nat.mod_eq_of_lt hlt).symm
  | ⟨1, _⟩ => exact gathers_S1000000x128_S128x128.idx_of_ne (SparseCore.rows (F := F) l rfl hl) i ⟨1, by decide⟩ (by decide)

end Gathered

end Tile

end Cert.KernelIdeal.Tiles

end
-- ==== Proof.IdealTrip.lean ====
/-
  One trip of a tile's loop. Trip `t` finishes row `t` of the row buffer in eight blocks of sixteen lanes: each block
  loads its lanes of the gathered row and of the position row, and stores back the gathered lanes scaled, plus the
  position lanes. `block_step` is one block; `trip` is the whole trip.
-/
module

public import proofs.«01_k».proof.Proof.IdealViews

@[expose] public section

noncomputable section

namespace Cert.KernelIdeal.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The factor by which the program scales the table's numbers. -/
abbrev scale : F .f32 := Named.named κ "s" 0x413504F3#32

section Trip

variable (d : Dev nD) (L : grid0.Coords) (g p : S256x128.Idx → F .f32)

/-- The row buffer and the position buffer of the tile, the row buffer finished as far as lane `k` of row `t`. -/
def buffers (t k : ℕ) : sProp 𝕄 :=
  iprop(((rB).view.loc (V d (cV L) (jV L)) ↦{fullShare} Rows.partly scale g p t k) ∗ ((pB).view.loc (V d (cV L) (jV L)) ↦{fullShare} p))

/-- One block: the lanes from lane `k` of row `t`. -/
theorem block_step {α : Type} {Q : α → sProp 𝕄} {t k : ℕ} {off : Fin 2 → ℕ} (hoff : off = ![t, k]) (inb : ∀ a, off a + S1x16.size a ≤ S256x128.size a)
    (pay : FVec F S1x16 .f32 → FVec F S1x16 .f32 → FVec F S1x16 .f32) (hpay : ∀ v w, pay v w = Rows.block scale v w)
    {h₁ : (rB).view.LoadsAt (Rect.unit (s := S256x128) off S1x16.size inb).toLoadRect} {h₂ : (pB).view.LoadsAt (Rect.unit (s := S256x128) off S1x16.size inb).toLoadRect}
    {h₃ : (rB).view.LoadsAt (Rect.unit (s := S256x128) off S1x16.size inb).toLoadRect}
    {hs : ((rB).access (Rect.unit (s := S256x128) off S1x16.size inb)).Stores Finset.univ}
    {hm : (Finset.univ : Finset S1x16.Idx) = Finset.univ ∨ ∀ a, (Rect.unit (s := S256x128) off S1x16.size inb).stride a = 1}
    {rest : PUnit → Prog (TpuEff nD τ sig (Elt F) Λ₀ (V d (cV L) (jV L)).2) α} :
    buffers d L g p t k
      ⊢ iprop((buffers d L g p t (k + 16) -∗ wp frame (wpE (defs₀ (F := F)) 𝒱₀ (V d (cV L) (jV L)) none) Set.univ (rest ⟨⟩) Q)
        -∗ wp frame (wpE (defs₀ (F := F)) 𝒱₀ (V d (cV L) (jV L)) none) Set.univ
          (.op (.load rB (Rect.unit (s := S256x128) off S1x16.size inb).toLoadRect h₁) fun v : FVec F S1x16 .f32 =>
            .op (.load pB (Rect.unit (s := S256x128) off S1x16.size inb).toLoadRect h₂) fun w : FVec F S1x16 .f32 =>
            .op (.load rB (Rect.unit (s := S256x128) off S1x16.size inb).toLoadRect h₃) fun _ =>
            .op (.store rB (Rect.unit (s := S256x128) off S1x16.size inb) (pay v w) Finset.univ hs hm) rest) Q) := by
  unfold buffers
  iintro ⟨Hr, Hp⟩ Hk
  iapply (wp_load 𝒱₀ (V d (cV L) (jV L)) none Set.univ (m := rB) (S := Finset.univ) (Finset.subset_univ _)) $$ Hr
  iintro Hr
  iapply (wp_load 𝒱₀ (V d (cV L) (jV L)) none Set.univ (m := pB) (S := Finset.univ) (Finset.subset_univ _)) $$ Hp
  iintro Hp
  iapply (wp_load 𝒱₀ (V d (cV L) (jV L)) none Set.univ (m := rB) (S := Finset.univ) (Finset.subset_univ _)) $$ Hr
  iintro Hr
  ihave Hr' := (show ((rB).view.loc (V d (cV L) (jV L)) ↦{fullShare} Rows.partly scale g p t k : sProp 𝕄)
      ⊢ ((rB).access (Rect.unit (s := S256x128) off S1x16.size inb)).loc (V d (cV L) (jV L)) ↦{fullShare} Rows.partly scale g p t k from .rfl) $$ Hr
  iapply (wp_store 𝒱₀ (V d (cV L) (jV L)) none Set.univ (m := rB) (S := Finset.univ) (Finset.subset_univ _)) $$ Hr'
  iintro Hr
  iapply Hk
  isplitl [Hr]
  · iapply (Entails.of_eq (pointsTo_congr (ℓ := (rB).view.loc (V d (cV L) (jV L))) (q := fullShare) (fun y _ => ?_))) $$ Hr
    rw [hpay]
    by_cases hy : y ∈ (Rect.unit (s := S256x128) off S1x16.size inb).set
    · rw [← Rect.map_emb_univ] at hy
      obtain ⟨i, -, rfl⟩ := Finset.mem_map.mp hy
      refine ((rB).view.read_slice_write_emb (Val := Elt F) _ _ _ (Finset.mem_univ i)).trans ?_
      exact Rows.partly_hit scale g p hoff inb i
    · refine ((rB).view.read_slice_write_of_not_mem (Val := Elt F) _ _ _ _ (by rwa [Rect.map_emb_univ])).trans ?_
      exact Rows.partly_miss scale g p hoff inb hy
  · iexact Hp

/-- A whole trip. -/
theorem trip (t : Fin k0_t1_loop.trips) (u : Unit) (a₁ : (wV).IsWhole) (a₂ : (tV).IsWhole) (a₃ : (pV).IsWhole) (a₄ : (oV).IsWhole)
    (a₅ : (wB).IsWhole) (a₆ : (rB).IsWhole) (a₇ : (pB).IsWhole) :
    buffers d L g p t.val 0
      ⊢ wp frame (wpE (defs₀ (F := F)) 𝒱₀ (V d (cV L) (jV L)) none) Set.univ
          (k0_t1_body L wV a₁ tV a₂ pV a₃ oV a₄ wB a₅ rB a₆ pB a₇ cc0_scratch3 cc0_scoped0 cc0_scoped1 cc0_scoped2 t u)
          fun _ => buffers d L g p (t.val + 1) 0 := by
  have hb : ∀ (v w : FVec F S1x16 .f32), _ = Rows.block (scale (F := F)) v w := fun v w =>
    Rows.block_eq scale v w shapeCasts_S1x16_S16 shapeCasts_S16_S1x16
  unfold k0_t1_body
  simp only [k0_part1_eq_skeleton, k0_part2_eq_skeleton]
  unfold k0_part1_skel k0_part2_skel
  simp only [bind_assoc, pure_bind]
  iintro H
  iapply (block_step d L g p (k := 0) (k0_off3_eq t) (k0_off3_inb t) k0_pay3 hb) $$ H
  iintro H
  iapply (block_step d L g p (k := 16) (k0_off4_eq t) (k0_off4_inb t) k0_pay4 hb) $$ H
  iintro H
  iapply (block_step d L g p (k := 32) (k0_off5_eq t) (k0_off5_inb t) k0_pay5 hb) $$ H
  iintro H
  iapply (block_step d L g p (k := 48) (k0_off6_eq t) (k0_off6_inb t) (fun v w => k0_pay7 (k0_pay6 v) scale w) hb) $$ H
  iintro H
  iapply (block_step d L g p (k := 64) (k0_off7_eq t) (k0_off7_inb t) k0_pay8 hb) $$ H
  iintro H
  iapply (block_step d L g p (k := 80) (k0_off8_eq t) (k0_off8_inb t) k0_pay9 hb) $$ H
  iintro H
  iapply (block_step d L g p (k := 96) (k0_off9_eq t) (k0_off9_inb t) (fun v w => k0_pay1 (k0_pay10 v) (k0_pay11 w)) hb) $$ H
  iintro H
  iapply (block_step d L g p (k := 112) (k0_off10_eq t) (k0_off10_inb t) k0_pay2 hb) $$ H
  iintro H
  simp only [Prog.bind]
  sl_step
  unfold buffers
  rw [← Rows.partly_row]
  iexact H

end Trip

end Cert.KernelIdeal.Tiles

end
-- ==== Proof.IdealGather.lean ====
/-
  The two gathers of one tile and their waits. Both are issued on one semaphore before either is waited for, so their
  256 row transfers are one batch: transfers 0, …, 127 are the rows of the first half of the row buffer, transfers 128,
  …, 255 those of the second. The first wait consumes half of the batch's units, the second the rest and hands all the
  rows back: the row buffer then holds the table's rows named by the tile's words (`gather_rows`).
-/
module

public import proofs.«01_k».proof.Proof.IdealViews

@[expose] public section

noncomputable section

namespace Cert.KernelIdeal.Tiles

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section Gathers

variable (d : Dev nD) (L : grid0.Coords) (q : PosShare TreeShare)
variable (X : S64x128.Idx → BitVec 32) (Tb : S1000000x128.Idx → F .f32) (fr : S256x128.Idx → F .f32)
variable (hX : ∀ j, (X j).toNat < 1000000)

/-- The contents of the tile's word buffer. -/
abbrev tileWords : S2x128.Idx → BitVec 32 := (wK L).view.read (Elt F) X

/-- What the rows of the first gather hand back, and those of the second. -/
abbrev delivery₀ (j : Fin 128) : sProp 𝕄 :=
  Streams.rowDelivery (V d (cV L) (jV L)) tK rK₀ gathers_S1000000x128_S128x128 lK₀ rfl (by decide) q.left fullShare.left Tb fr
    (tileWords (F := F) L X) (inb_lK₀ L X hX) j
abbrev delivery₁ (j : Fin 128) : sProp 𝕄 :=
  Streams.rowDelivery (V d (cV L) (jV L)) tK rK₁ gathers_S1000000x128_S128x128 lK₁ rfl (by decide) q.right fullShare.right Tb fr
    (tileWords (F := F) L X) (inb_lK₁ L X hX) j

/-- What the batch's transfers hand back. -/
def delivery (t : Fin 256) : sProp 𝕄 :=
  if h : t.val < 128 then delivery₀ d L q X Tb fr hX ⟨t.val, h⟩ else delivery₁ d L q X Tb fr hX ⟨t.val - 128, by omega⟩

instance delivery_storable (t : Fin 256) : Storable (upEmb : UEmb _ 𝕄) (delivery d L q X Tb fr hX t) := by
  unfold delivery
  split
  · exact Streams.rowDelivery_storable _ _ _ _ _ _ _ _ _ _ _ _ _ _
  · exact Streams.rowDelivery_storable _ _ _ _ _ _ _ _ _ _ _ _ _ _

theorem delivery_first (j : Fin 128) (h : 0 + j.val < 256) : delivery d L q X Tb fr hX ⟨0 + j.val, h⟩ = delivery₀ d L q X Tb fr hX j := by
  unfold delivery
  rw [dif_pos (show 0 + j.val < 128 by omega)]
  congr 1
  exact Fin.ext (Nat.zero_add _)

theorem delivery_second (j : Fin 128) (h : 128 + j.val < 256) : delivery d L q X Tb fr hX ⟨128 + j.val, h⟩ = delivery₁ d L q X Tb fr hX j := by
  unfold delivery
  rw [dif_neg (show ¬ 128 + j.val < 128 by omega)]
  congr 1
  exact Fin.ext (show 128 + j.val - 128 = j.val by omega)

/-- All the batch's deliveries are the rows of the two gathers. -/
theorem delivery_all :
    (bigSep Finset.univ (delivery d L q X Tb fr hX) : sProp 𝕄)
      = iprop(bigSep Finset.univ (delivery₀ d L q X Tb fr hX) ∗ bigSep Finset.univ (delivery₁ d L q X Tb fr hX)) := by
  have e0 : (Finset.univ : Finset (Fin 256)) = Transfers.pending 0 := by rw [Transfers.pending_zero]
  have e2 : (Transfers.pending (0 + 128 + 128) : Finset (Fin 256)) = ∅ := Finset.eq_empty_iff_forall_notMem.mpr fun t ht => by
    have := (Finset.mem_filter.mp ht).2; omega
  have e3 : (bigSep Finset.univ fun j : Fin 128 => delivery d L q X Tb fr hX ⟨0 + j.val, by omega⟩) = bigSep Finset.univ (delivery₀ d L q X Tb fr hX) :=
    bigSep_congr fun j _ => delivery_first d L q X Tb fr hX j (by omega)
  have e4 : (bigSep Finset.univ fun j : Fin 128 => delivery d L q X Tb fr hX ⟨0 + 128 + j.val, by omega⟩) = bigSep Finset.univ (delivery₁ d L q X Tb fr hX) :=
    bigSep_congr fun j _ => delivery_second d L q X Tb fr hX j (by omega)
  rw [e0, Streams.pending_take (delivery d L q X Tb fr hX) 0 128 (by omega), Streams.pending_take (delivery d L q X Tb fr hX) (0 + 128) 128 (by omega),
    e2, bigSep_empty, e3, e4]
  exact BI.equiv_iff.mp ⟨BI.sep_mono_r BI.sep_emp.1, BI.sep_mono_r BI.sep_emp.2⟩

/-- The first half of the row buffer after its gather, and the second half after its. -/
theorem gathered₀ :
    ∀ y ∈ (rK₀).view.set, (rK₀).view.write (Elt F) fr (Streams.gathered (V d (cV L) (jV L)) tK gathers_S1000000x128_S128x128 lK₀ rfl Tb
      (tileWords (F := F) L X) (inb_lK₀ L X hX)) Finset.univ y = Rows.gatheredRows X Tb (num L) y := by
  intro y hy
  obtain ⟨i, -, rfl⟩ := Finset.mem_map.mp hy
  refine (View.write_emb_of_mem _ _ (Finset.mem_univ i)).trans ?_
  have hi : (i 0).val < 128 := (i 0).isLt
  refine ((cast_eq _ _).trans ?_).trans (congrArg (Rows.gatheredRows X Tb (num L)) (?_ : ix2 (⟨(i 0).val, by omega⟩ : Fin 256) (i 1) = (rK₀).view.emb i))
  · unfold Streams.gathered
    rw [read_tK]
    refine gathered_row L X Tb _ (inb_lK₀ L X hX) i ⟨(i 0).val, by omega⟩ fun j hj => ?_
    rw [words_lK₀]
    congr 2; exact Fin.ext hj
  · funext a
    apply Fin.ext
    match a with
    | ⟨0, _⟩ => show (i 0).val = 0 + 1 * (i 0).val; omega
    | ⟨1, _⟩ => show (i 1).val = 0 + 1 * (i 1).val; omega

theorem gathered₁ :
    ∀ y ∈ (rK₁).view.set, (rK₁).view.write (Elt F) fr (Streams.gathered (V d (cV L) (jV L)) tK gathers_S1000000x128_S128x128 lK₁ rfl Tb
      (tileWords (F := F) L X) (inb_lK₁ L X hX)) Finset.univ y = Rows.gatheredRows X Tb (num L) y := by
  intro y hy
  obtain ⟨i, -, rfl⟩ := Finset.mem_map.mp hy
  refine (View.write_emb_of_mem _ _ (Finset.mem_univ i)).trans ?_
  have hi : (i 0).val < 128 := (i 0).isLt
  refine ((cast_eq _ _).trans ?_).trans (congrArg (Rows.gatheredRows X Tb (num L)) (?_ : ix2 (⟨128 + (i 0).val, by omega⟩ : Fin 256) (i 1) = (rK₁).view.emb i))
  · unfold Streams.gathered
    rw [read_tK]
    refine gathered_row L X Tb _ (inb_lK₁ L X hX) i ⟨128 + (i 0).val, by omega⟩ fun j hj => ?_
    rw [words_lK₁]
    congr 2; exact Fin.ext (by show 128 + (j 0).val = 128 + (i 0).val; omega)
  · funext a
    apply Fin.ext
    match a with
    | ⟨0, _⟩ => show 128 + (i 0).val = 128 + 1 * (i 0).val; omega
    | ⟨1, _⟩ => show (i 1).val = 0 + 1 * (i 1).val; omega

/-- A buffer held at a share is two parts of it, each of half the share, on given elements, and what is left over of each. -/
theorem halves {ℓ : Loc nD τ sig} (q : PosShare TreeShare) (f : Buf (Elt F) ℓ) (I J : Finset (Idx ℓ)) :
    (ℓ ↦{q} f : sProp 𝕄) ⊣⊢ iprop(((ℓ ↦[I]{q.left} f) ∗ (ℓ ↦[Finset.univ \ I]{q.left} f)) ∗ ((ℓ ↦[J]{q.right} f) ∗ (ℓ ↦[Finset.univ \ J]{q.right} f))) := by
  have hl := pointsTo_split_subset (Ix := HIx 1) (Name := ℕ) (U := UU) (Lvl := ℕ) (q := q.left) (f := f) (S := Finset.univ) (Finset.subset_univ I)
  have hr := pointsTo_split_subset (Ix := HIx 1) (Name := ℕ) (U := UU) (Lvl := ℕ) (q := q.right) (f := f) (S := Finset.univ) (Finset.subset_univ J)
  have hs := pointsTo_share (Ix := HIx 1) (Name := ℕ) (U := UU) (Lvl := ℕ) (ℓ := ℓ) (I := Finset.univ) (f := f) (PosShare.mem_left_op_right q)
  exact ⟨hs.1.trans (BIClass.sep_mono hl.1 hr.1), (BIClass.sep_mono hl.2 hr.2).trans hs.2⟩

include hX in
set_option maxHeartbeats 1000000 in
/-- The two gathers and the two waits: from a share of the table, the word buffer holding the tile's words, the row
    buffer, and the semaphore at zero, to the row buffer holding the table's rows named by the words, everything else
    given back. -/
theorem gather_rows {α : Type} {Q : α → sProp 𝕄} (O : CellTallies nD τ sig (HIx 1)) (W : Waits sig (HIx 1))
    {h₁ : (V d (cV L) (jV L)).2.kind = .scVector} {h₂ : (tK).view.WordExact} {h₃ : EltTy.f32.bits = 32} {h₄ : (Space.hbm : Space) = .hbm ∨ (Space.hbm : Space) = .shared}
    {h₅ : S1000000x128.StreamRows 0} {h₆ : (rK₀).view.WordExact} {h₇ : (rK₁).view.WordExact} {hn₀ hn₁ : S128.numel = S128x128.size gathers_S1000000x128_S128x128.axis'}
    {rest : PUnit → Prog (TpuEff nD τ sig (Elt F) Λ₀ (V d (cV L) (jV L)).2) α} :
    iprop(Transfers.MayWaits (V d (cV L) (jV L)) (default : HIx 1) O ∗ ((tV).view.loc (V d (cV L) (jV L)) ↦{q} Tb)
        ∗ ((wB).view.loc (V d (cV L) (jV L)) ↦{fullShare} tileWords (F := F) L X) ∗ ((rB).view.loc (V d (cV L) (jV L)) ↦{fullShare} fr)
        ∗ semVal (V d (cV L) (jV L), SemLoc.dma cc0_scratch3.sem) 0 ∗ owes (V d (cV L) (jV L)) O W)
      ⊢ iprop((iprop(((tV).view.loc (V d (cV L) (jV L)) ↦{q} Tb) ∗ ((wB).view.loc (V d (cV L) (jV L)) ↦{fullShare} tileWords (F := F) L X)
              ∗ ((rB).view.loc (V d (cV L) (jV L)) ↦{fullShare} Rows.gatheredRows X Tb (num L))
              ∗ semVal (V d (cV L) (jV L), SemLoc.dma cc0_scratch3.sem) 0
              ∗ owes (V d (cV L) (jV L)) O (insert (SemLoc.dma cc0_scratch3.sem, default) W))
            -∗ wp frame (wpE (defs₀ (F := F)) 𝒱₀ (V d (cV L) (jV L)) none) Set.univ (rest ⟨⟩) Q)
          -∗ wp frame (wpE (defs₀ (F := F)) 𝒱₀ (V d (cV L) (jV L)) none) Set.univ
            (SparseCore.enqueueIndirectGather h₁ tK rK₀ gathers_S1000000x128_S128x128 lK₀ hn₀ cc0_scratch3.sem h₂ h₃ h₄ h₅ >>= fun _ =>
              SparseCore.enqueueIndirectGather h₁ tK rK₁ gathers_S1000000x128_S128x128 lK₁ hn₁ cc0_scratch3.sem h₂ h₃ h₄ h₅ >>= fun _ =>
              SparseCore.waitIndirectGather cc0_scratch3.sem tK rK₀ h₂ h₆ >>= fun _ =>
              SparseCore.waitIndirectGather cc0_scratch3.sem tK rK₁ h₂ h₇ >>= rest) Q) := by
  have hK₀ : ∀ j, ((rK₀).slice (S128x128.rowRect gathers_S1000000x128_S128x128.axis' j) (S128x128.stride_rowRect gathers_S1000000x128_S128x128.axis' j)).view.dmaCredit = 4096 :=
    by decide
  have hK₁ : ∀ j, ((rK₁).slice (S128x128.rowRect gathers_S1000000x128_S128x128.axis' j) (S128x128.stride_rowRect gathers_S1000000x128_S128x128.axis' j)).view.dmaCredit = 4096 :=
    by decide
  have hc₀ : (rK₀).view.dmaCredit = 128 * 4096 := by decide
  have hc₁ : (rK₁).view.dmaCredit = 128 * 4096 := by decide
  have ho : 0 < S128x128.size gathers_S1000000x128_S128x128.axis' := by decide
  iintro ⟨#Hmw, Ht, Hw, Hr, Hsem, HO⟩ Hk
  -- each gather's half share of the table and of the word buffer, and its half of the row buffer
  ihave Ht' := (halves (F := F) (ℓ := (tV).view.loc (V d (cV L) (jV L))) q Tb (tK).view.set (tK).view.set).1 $$ Ht
  icases Ht' with ⟨⟨Ht0, Ht0'⟩, ⟨Ht1, Ht1'⟩⟩
  ihave Hw' := (halves (F := F) (ℓ := (wB).view.loc (V d (cV L) (jV L))) fullShare (tileWords (F := F) L X) (lK₀).view.set (lK₁).view.set).1 $$ Hw
  icases Hw' with ⟨⟨Hw0, Hw0'⟩, ⟨Hw1, Hw1'⟩⟩
  ihave Hr' := (pointsTo_split_subset (q := fullShare) (f := fr) (S := Finset.univ) (Finset.subset_univ (rK₀).view.set)).1 $$ Hr
  icases Hr' with ⟨Hr0, Hr1⟩
  ihave Hr1' := (Entails.of_eq (show ((rB).view.loc (V d (cV L) (jV L)) ↦[Finset.univ \ (rK₀).view.set]{fullShare} fr : sProp 𝕄)
    = (rK₁).view.loc (V d (cV L) (jV L)) ↦[(rK₁).view.set]{fullShare} fr by rw [set_rest])) $$ Hr1
  imod (Transfers.batch_alloc' countersEmb (V d (cV L) (jV L)) (default : HIx 1) 4096 (delivery d L q X Tb fr hX)) $$ Hsem with HB
  iapply (Streams.wp_gatherIntoBatch countersEmb (V d (cV L) (jV L)) 𝒱₀ none (q := q.left) (qo := fullShare.left) (default : HIx 1) 4096
    (hn := rfl) hK₀ (by decide) (inb_lK₀ L X hX) (show 0 + 128 ≤ 256 by decide) (Nat.zero_le _) (fun j => Entails.of_eq (delivery_first d L q X Tb fr hX j _).symm)) $$ [Ht0 Hr0 Hw0 HB]
  · isplitl [Ht0]; · iexact Ht0
    isplitl [Hr0]; · iexact Hr0
    isplitl [Hw0]; · iexact Hw0
    iexact HB
  iintro HB
  iapply (Streams.wp_gatherIntoBatch countersEmb (V d (cV L) (jV L)) 𝒱₀ none (q := q.right) (qo := fullShare.right) (default : HIx 1) 4096
    (hn := rfl) hK₁ (by decide) (inb_lK₁ L X hX) (show 128 + 128 ≤ 256 by decide) (Nat.zero_le _) (fun j => Entails.of_eq (delivery_second d L q X Tb fr hX j _).symm)) $$ [Ht1 Hr1' Hw1 HB]
  · isplitl [Ht1]; · iexact Ht1
    isplitl [Hr1']; · iexact Hr1'
    isplitl [Hw1]; · iexact Hw1
    iexact HB
  iintro HB
  iapply (Transfers.wp_waitBatchMulO countersEmb 𝒱₀ (V d (cV L) (jV L)) none (default : HIx 1) (N := 4096) 128 hc₀
    (D := delivery d L q X Tb fr hX) (j := 256) (u := 0) (by decide)) $$ [HB HO]
  · isplitl [HB]; · iexact HB
    isplitl [HO]; · iexact HO
    iapply (Transfers.MayWaits.elim (SemLoc.dma cc0_scratch3.sem)) $$ Hmw
  iintro ⟨HB, HO⟩
  iapply (Transfers.wp_waitBatchAllO countersEmb 𝒱₀ (V d (cV L) (jV L)) none (default : HIx 1) (N := 4096) hc₁
    (by decide) (D := delivery d L q X Tb fr hX) (u := 0 + 128 * 4096) (by decide)) $$ [HB HO]
  · isplitl [HB]; · iexact HB
    isplitl [HO]; · iexact HO
    iapply (Transfers.MayWaits.elim (SemLoc.dma cc0_scratch3.sem)) $$ Hmw
  iintro ⟨HD, Hsem, HO⟩
  rw [Finset.insert_idem]
  -- the rows put together again
  ihave HD' := (Entails.of_eq (delivery_all d L q X Tb fr hX)) $$ HD
  icases HD' with ⟨HD0, HD1⟩
  ihave H0 := (show (bigSep Finset.univ (delivery₀ d L q X Tb fr hX) : sProp 𝕄) ⊢ _ from
    Streams.rows_collect (V d (cV L) (jV L)) tK rK₀ gathers_S1000000x128_S128x128 lK₀ rfl ho q.left fullShare.left Tb fr
    (tileWords (F := F) L X) (inb_lK₀ L X hX)) $$ HD0
  icases H0 with ⟨Hr0, Hw0, Ht0⟩
  ihave H1 := (show (bigSep Finset.univ (delivery₁ d L q X Tb fr hX) : sProp 𝕄) ⊢ _ from
    Streams.rows_collect (V d (cV L) (jV L)) tK rK₁ gathers_S1000000x128_S128x128 lK₁ rfl ho q.right fullShare.right Tb fr
    (tileWords (F := F) L X) (inb_lK₁ L X hX)) $$ HD1
  icases H1 with ⟨Hr1, Hw1, Ht1⟩
  iapply Hk
  isplitl [Ht0 Ht0' Ht1 Ht1']
  · iapply (halves (F := F) (ℓ := (tV).view.loc (V d (cV L) (jV L))) q Tb (tK).view.set (tK).view.set).2
    isplitl [Ht0 Ht0']
    · isplitl [Ht0] <;> iassumption
    · isplitl [Ht1] <;> iassumption
  isplitl [Hw0 Hw0' Hw1 Hw1']
  · iapply (halves (F := F) (ℓ := (wB).view.loc (V d (cV L) (jV L))) fullShare (tileWords (F := F) L X) (lK₀).view.set (lK₁).view.set).2
    isplitl [Hw0 Hw0']
    · isplitl [Hw0] <;> iassumption
    · isplitl [Hw1] <;> iassumption
  isplitl [Hr0 Hr1]
  · iapply (pointsTo_split_subset (q := fullShare) (f := Rows.gatheredRows X Tb (num L)) (S := Finset.univ) (Finset.subset_univ (rK₀).view.set)).2
    isplitl [Hr0]
    · iapply (Entails.of_eq (pointsTo_congr (gathered₀ d L X Tb fr hX))) $$ Hr0
    · rw [set_rest]
      iapply (Entails.of_eq (pointsTo_congr (gathered₁ d L X Tb fr hX))) $$ Hr1
  isplitl [Hsem]; · iexact Hsem
  iexact HO

end Gathers

end Cert.KernelIdeal.Tiles

end
-- ==== Proof.IdealTile.lean ====
/-
  One tile's task, at a symbolic SparseCore and tile: the fetch of its words and of its position rows, the two gathers
  issued on one semaphore and their two waits, the loop of 256 trips, and the copy of the finished rows to the output.

  The two gathers are one batch of 256 row transfers (`Streams`): only the second wait hands the rows back.
-/
module

public import proofs.«01_k».proof.Proof.IdealTrip
public import proofs.«01_k».proof.Proof.IdealGather

@[expose] public section

noncomputable section

namespace Cert.KernelIdeal.Tiles

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

section Tile

variable (d : Dev nD) (L : grid0.Coords)

/-! ## The tile's own semaphores and buffers -/

abbrev cell (s : DmaSems sig S_) : GSem nD τ sig := (V d (cV L) (jV L), .dma s.sem)

omit [FloatOps F] [Named F] in
/-- The tile's own semaphores at zero: the gathers' one, the three of the plain copies, and the rest. -/
theorem ownSems0_V :
    (ownSems0 (V d (cV L) (jV L)) : sProp 𝕄)
      = iprop(semVal (cell d L cc0_scratch3) 0 ∗ semVal (cell d L cc0_scoped0) 0 ∗ semVal (cell d L cc0_scoped1) 0 ∗ semVal (cell d L cc0_scoped2) 0
          ∗ bigSep (((((ownCells (V d (cV L) (jV L))).erase (cell d L cc0_scratch3)).erase (cell d L cc0_scoped0)).erase (cell d L cc0_scoped1)).erase
              (cell d L cc0_scoped2)) fun g => semVal g 0) := by
  have own : ∀ s : DmaSem sig, (SemLoc.dma s : SemLoc sig).isScoped .scVector = true → ((V d (cV L) (jV L), SemLoc.dma s) : GSem nD τ sig) ∈ ownCells (V d (cV L) (jV L)) :=
    fun s hs => mem_ownCells.mpr ⟨rfl, hs⟩
  have ne : ∀ s s' : DmaSem sig, s ≠ s' → ((V d (cV L) (jV L), SemLoc.dma s) : GSem nD τ sig) ≠ (V d (cV L) (jV L), SemLoc.dma s') :=
    fun s s' h e => h (SemLoc.dma.inj (Prod.mk.inj e).2)
  unfold SparseCore.Cfg.ownSems0
  rw [SparseCore.bigSep_erase' (own cc0_scratch3.sem (by decide)),
    SparseCore.bigSep_erase' (Finset.mem_erase.mpr ⟨ne cc0_scoped0.sem cc0_scratch3.sem (by decide), own _ (by decide)⟩),
    SparseCore.bigSep_erase' (Finset.mem_erase.mpr ⟨ne cc0_scoped1.sem cc0_scoped0.sem (by decide),
      Finset.mem_erase.mpr ⟨ne _ cc0_scratch3.sem (by decide), own _ (by decide)⟩⟩),
    SparseCore.bigSep_erase' (Finset.mem_erase.mpr ⟨ne cc0_scoped2.sem cc0_scoped1.sem (by decide),
      Finset.mem_erase.mpr ⟨ne _ cc0_scoped0.sem (by decide), Finset.mem_erase.mpr ⟨ne _ cc0_scratch3.sem (by decide), own _ (by decide)⟩⟩⟩)]

omit [FloatOps F] [Named F] in
/-- The tile's own buffers: the word buffer, the row buffer and the position buffer at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h => SparseCore.Cfg.mem_ownRefs_of_owner h
  have ne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own _ rfl⟩),
    SparseCore.bigSep_erase' (Finset.mem_erase.mpr ⟨ne cc0_scratch2 cc0_scratch1 (by decide),
      Finset.mem_erase.mpr ⟨ne _ cc0_scratch0 (by decide), own _ rfl⟩⟩)]

/-! ## What the task takes and brings back -/

variable (q : PosShare TreeShare) (X : Buf (Elt F) (wLoc d)) (Tb : Buf (Elt F) (tLoc d)) (P : Buf (Elt F) (pLoc d)) (O₀ : Buf (Elt F) (oLoc d))

/-- Tile `w`'s words, a share of the table, a share of the position rows, and its rows of the output holding `f`. -/
def holds (w : Fin 32) (f : Buf (Elt F) (oLoc d)) : sProp 𝕄 :=
  iprop((wLoc d ↦[wordsOf w]{fullShare} X) ∗ (tLoc d ↦{q} Tb) ∗ (pLoc d ↦{q} P) ∗ (oLoc d ↦[rowsOf w]{fullShare} f))

omit [FloatOps F] [Named F] in
theorem pts_wK (f : Buf (Elt F) (wLoc d)) :
    ((wK L).view.loc (V d (cV L) (jV L)) ↦[(wK L).view.set]{fullShare} f : sProp 𝕄) = wLoc d ↦[wordsOf (num L)]{fullShare} f := by
  rw [set_wK]
omit [FloatOps F] [Named F] in
theorem pts_oK (f : Buf (Elt F) (oLoc d)) :
    ((oK L).view.loc (V d (cV L) (jV L)) ↦[(oK L).view.set]{fullShare} f : sProp 𝕄) = oLoc d ↦[rowsOf (num L)]{fullShare} f := by
  rw [set_oK]

variable (hX : ∀ j, (X j : BitVec 32).toNat < 1000000)

include hX in
set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ holds d q X Tb P (num L) O₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_emb_kernel L wV (Memref.isWhole_whole _) tV (Memref.isWhole_whole _) pV (Memref.isWhole_whole _) oV (Memref.isWhole_whole _)
            wB (Memref.isWhole_whole _) rB (Memref.isWhole_whole _) pB (Memref.isWhole_whole _) cc0_scratch3 cc0_scoped0 cc0_scoped1 cc0_scoped2)
          fun _ => iprop(holds d q X Tb P (num L) (Rows.result scale X Tb P)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_emb_kernel_eq_skeleton, cc0_emb_kernel_skel, k0_part3_eq_skeleton, k0_part3_skel, bind_assoc, pure_bind]
  rw [(K (F := F)).scopedBufs_V hF d (cV L) (jV L), SparseCore.Cfg.scopedSems0_V (Val := Elt F) d (cV L) (jV L), ownSems0_V, ownBufs_V]
  unfold holds
  iintro ⟨#Hlv, -, ⟨Hw, Ht, Hp, Ho⟩, ⟨⟨%fw, Hwb⟩, ⟨%fr, Hrb⟩, ⟨%fp, Hpb⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw' := (Entails.of_eq (pts_wK (F := F) d L _).symm) $$ Hw
  ihave Ho' := (Entails.of_eq (pts_oK (F := F) d L _).symm) $$ Ho
  ihave Hp' := (show (pLoc d ↦{q} P : sProp 𝕄) ⊢ (pV).view.loc (V d (cV L) (jV L)) ↦{q} P from .rfl) $$ Hp
  ihave Hwb' := (show ((V d (cV L) (jV L)).loc cc0_scratch0 ↦{fullShare} fw : sProp 𝕄) ⊢ (wB).view.loc (V d (cV L) (jV L)) ↦{fullShare} fw from .rfl) $$ Hwb
  ihave Hrb' := (show ((V d (cV L) (jV L)).loc cc0_scratch1 ↦{fullShare} fr : sProp 𝕄) ⊢ (rB).view.loc (V d (cV L) (jV L)) ↦{fullShare} fr from .rfl) $$ Hrb
  ihave Hpb' := (show ((V d (cV L) (jV L)).loc cc0_scratch2 ↦{fullShare} fp : sProp 𝕄) ⊢ (pB).view.loc (V d (cV L) (jV L)) ↦{fullShare} fp from .rfl) $$ Hpb
  sl_exec
  -- the word buffer holds the tile's words and the position buffer its position rows
  have ew : View.write (Elt F) (wB).view fw (tile_body.sl.dma0 d L X) Finset.univ = tileWords (F := F) L X := View.write_whole_univ _ _ _
  have ep : View.write (Elt F) (pB).view fp (tile_body.sl.dma0_1 d L P) Finset.univ = Rows.posRows P (num L) :=
    (View.write_whole_univ _ _ _).trans (read_pK L P)
  rw [ew, ep]
  ihave Ht' := (show (tLoc d ↦{q} Tb : sProp 𝕄) ⊢ (tV).view.loc (V d (cV L) (jV L)) ↦{q} Tb from .rfl) $$ Ht
  iapply (gather_rows d L q X Tb fr hX O _) $$ [Ht' Hwb' Hrb' HsemG HO]
  · isplitr; · iexact Hmw
    isplitl [Ht']; · iexact Ht'
    isplitl [Hwb']; · iexact Hwb'
    isplitl [Hrb']; · iexact Hrb'
    isplitl [HsemG]; · iexact HsemG
    iexact HO
  iintro ⟨Ht', Hwb', Hrb', HsemG, HO⟩
  -- the loop: before trip `k` the first `k` rows are finished
  sl_for (fun (k : ℕ) (_ : Unit) => buffers d L (Rows.gatheredRows X Tb (num L)) (Rows.posRows P (num L)) k 0) $$ [Hrb' Hpb']
  case region =>
    intro k u
    exact trip d L (Rows.gatheredRows X Tb (num L)) (Rows.posRows P (num L)) k u _ _ _ _ _ _ _
  · unfold buffers
    rw [Rows.partly_start]
    isplitl [Hrb']; · iexact Hrb'
    iexact Hpb'
  iintro %_ HI
  unfold buffers
  icases HI with ⟨Hrb', Hpb'⟩
  rw [show Scf.trips k0_t1_loop.lb k0_t1_loop.ub k0_t1_loop.st = 256 by decide, Rows.partly_end]
  sl_exec
  sl_step
  isplitl [Hw' Ht' Hp' Ho']
  · isplitl [Hw']; · iapply (Entails.of_eq (pts_wK (F := F) d L _)); iexact Hw'
    isplitl [Ht']; · iexact Ht'
    isplitl [Hp']; · iexact Hp'
    iapply (Entails.of_eq (pts_oK (F := F) d L _))
    iapply (Entails.of_eq (pointsTo_congr (fun y hy => ?_))) $$ Ho'
    obtain ⟨i, -, rfl⟩ := Finset.mem_map.mp hy
    refine ((cast_eq _ _).symm.trans (View.read_apply (v := (oK L).view) (Val := Elt F) _ i).symm).trans ?_
    rw [View.writes_cons]
    refine (congrArg _ (show i = (Rect.whole S256x128).emb i from (Rect.emb_whole_apply S256x128 i).symm)).trans ?_
    refine ((oK L).view.read_slice_write_emb (Val := Elt F) _ _ _ (Finset.mem_univ i)).trans ?_
    rw [emb_oK]
    exact Rows.doneRows_eq_result scale X Tb P (num L) i
  isplitl [Hwb' Hrb' Hpb' Hbufs]
  · isplitl [Hwb']; · iexists _; iexact Hwb'
    isplitl [Hrb']; · iexists _; iexact Hrb'
    isplitl [Hpb']; · iexists _; iexact Hpb'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Tiles

end
-- ==== Proof.IdealRun.lean ====
/-
  The whole program: @main on the TensorCore lays out the words, starts the SparseCores' 32 tiles, waits for
  them, and lays the output out again.

  Each tile takes its words, its rows of the output, and a share of the table and of the position rows (the full share
  in two, each half in sixteen); the arrays are these parts together (`all_split`). `run_main`: every run from a memory
  whose words are below 1000000 ends with the result array holding `outcome`, the arguments unchanged, and every
  semaphore at zero.
-/
module

public import proofs.«01_k».proof.Proof.IdealTile
public import proofs.«01_k».proof.Proof.Gen.Pre_in_vocab

@[expose] public section

noncomputable section

namespace Cert.KernelIdeal.Tiles

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

theorem nCore_zero : (K (F := F)).nCore 0 = 2 := rfl
theorem nSub_zero : (K (F := F)).nSub 0 = 16 := rfl

/-! ## The arrays as the tiles' parts together -/

/-- The number of tile `i` of SparseCore `c`, and its share of the table and of the position rows. -/
def tileNo (c : Fin 2) (i : Fin 16) : Fin 32 := ⟨2 * i.val + c.val, by omega⟩
def share (c : Fin 2) (i : Fin 16) : PosShare TreeShare :=
  pieceOf (pieceOf fullShare 2 (by decide) c) 16 (by decide) i

/-- An array whose elements each belong to one tile is the tiles' parts together. -/
theorem parts_split {ℓ : Loc nD τ sig} (f : Buf (Elt F) ℓ) (J : Fin 32 → Finset (Idx ℓ)) (own : Idx ℓ → ℕ) (hlt : ∀ y, own y < 32)
    (hJ : ∀ w y, y ∈ J w ↔ own y = w.val) :
    (ℓ ↦{fullShare} f : sProp 𝕄)
      = bigSep Finset.univ fun c : Fin 2 => bigSep Finset.univ fun i : Fin 16 => ℓ ↦[J (tileNo c i)]{fullShare} f := by
  have hdis : ∀ p ∈ (Finset.univ : Finset (Fin 2 × Fin 16)), ∀ p' ∈ (Finset.univ : Finset (Fin 2 × Fin 16)), p ≠ p' →
      Disjoint (J (tileNo p.1 p.2)) (J (tileNo p'.1 p'.2)) := by
    intro p _ p' _ hne
    rw [Finset.disjoint_left]
    intro y hy hy'
    have h : 2 * p.2.val + p.1.val = 2 * p'.2.val + p'.1.val := ((hJ _ _).mp hy).symm.trans ((hJ _ _).mp hy')
    have := p.1.isLt; have := p'.1.isLt
    exact hne (Prod.ext (Fin.ext (by omega)) (Fin.ext (by omega)))
  have hcov : ((Finset.univ : Finset (Fin 2 × Fin 16)).biUnion fun p => J (tileNo p.1 p.2)) = Finset.univ :=
    Finset.eq_univ_iff_forall.mpr fun y => Finset.mem_biUnion.mpr
      ⟨(⟨own y % 2, by omega⟩, ⟨own y / 2, by have := hlt y; omega⟩), Finset.mem_univ _,
        (hJ _ _).mpr (show own y = 2 * (own y / 2) + own y % 2 by omega)⟩
  rw [← bigSep_univ_prod (fun p : Fin 2 × Fin 16 => (ℓ ↦[J (tileNo p.1 p.2)]{fullShare} f : sProp 𝕄)),
    ← pointsTo_biUnion Finset.univ (fun p : Fin 2 × Fin 16 => J (tileNo p.1 p.2)) hdis, hcov]

/-- An array that every tile reads whole is the tiles' shares of it together. -/
theorem shares_split {ℓ : Loc nD τ sig} (f : Buf (Elt F) ℓ) :
    (ℓ ↦{fullShare} f : sProp 𝕄) = bigSep Finset.univ fun c : Fin 2 => bigSep Finset.univ fun i : Fin 16 => ℓ ↦{share c i} f := by
  rw [pointsTo_piecesOf Finset.univ f (show 0 < 2 by decide) fullShare]
  exact bigSep_congr fun c _ => pointsTo_piecesOf Finset.univ f (show 0 < 16 by decide) _

theorem all_split (d : Dev nD) (X : Buf (Elt F) (wLoc d)) (Tb : Buf (Elt F) (tLoc d)) (P : Buf (Elt F) (pLoc d)) (O : Buf (Elt F) (oLoc d)) :
    (iprop((wLoc d ↦{fullShare} X) ∗ (tLoc d ↦{fullShare} Tb) ∗ (pLoc d ↦{fullShare} P) ∗ (oLoc d ↦{fullShare} O)) : sProp 𝕄)
      = bigSep Finset.univ fun c : Fin 2 => bigSep Finset.univ fun i : Fin 16 => holds d (share c i) X Tb P (tileNo c i) O := by
  unfold holds
  simp only [bigSep_sep']
  rw [← parts_split (F := F) (ℓ := wLoc d) X wordsOf (fun y => (y 0).val / 2) (fun y => by have : (y 0).val < 64 := (y 0).isLt; omega)
      (fun w y => by rw [wordsOf, Finset.mem_filter]; exact ⟨fun h => h.2, fun h => ⟨Finset.mem_univ _, h⟩⟩),
    ← parts_split (F := F) (ℓ := oLoc d) O rowsOf (fun y => (y 0).val / 256) (fun y => by have : (y 0).val < 8192 := (y 0).isLt; omega)
      (fun w y => by rw [rowsOf, Finset.mem_filter]; exact ⟨fun h => h.2, fun h => ⟨Finset.mem_univ _, h⟩⟩),
    ← shares_split (ℓ := tLoc d) Tb, ← shares_split (ℓ := pLoc d) P]

variable [FloatOps F] [Named F]
variable (m : (ℓ : Loc nD τ sig) → Buf (Elt F) ℓ) (ρ : Dev nD → PrngReg)

/-! ## What the arrays hold -/

abbrev aLoc (d : Dev nD) : Loc nD τ sig := (SparseCore.T d).loc main_arg0
abbrev zLoc (d : Dev nD) : Loc nD τ sig := (SparseCore.T d).loc main_v2

/-- The words as the tiles read them, 128 to a row. -/
def wordsIn (d : Dev nD) : S64x128.Idx → BitVec 32 := shapeCast S64x128 (m (aLoc d)) shapeCasts_S4x2048_S64x128

/-- What the tiles leave in the output, and the program's result. -/
def rowsOut (d : Dev nD) : S8192x128.Idx → F .f32 := Rows.result scale (wordsIn m d) (m (tLoc d)) (m (pLoc d))
def outcome (d : Dev nD) : S4x2048x128.Idx → F .f32 := shapeCast S4x2048x128 (rowsOut m d) shapeCasts_S8192x128_S4x2048x128

/-- Every word names a row of the table. -/
def InRange : Prop := ∀ (d : Dev nD) (j : S4x2048.Idx), (m (aLoc d) j : BitVec 32).toNat < 1000000

theorem wordsIn_lt (hpre : InRange m) (d : Dev nD) (j : S64x128.Idx) : (wordsIn m d j).toNat < 1000000 := hpre d _

/-! ## What the call carries -/

/-- Each tile takes its parts of the arrays, and brings them back with the output's rows finished; each SparseCore
    takes its tiles' parts together. -/
def pay : (K (F := F)).Pay (nD := nD) (Val := Elt F) (Name := ℕ) (U := UU) where
  st := fun q d c => match q with
    | 0 => bigSep Finset.univ fun i : Fin 16 => holds d (share c i) (wordsIn m d) (m (tLoc d)) (m (pLoc d)) (tileNo c i) (m (oLoc d))
  dn := fun q d c => match q with
    | 0 => bigSep Finset.univ fun i : Fin 16 => holds d (share c i) (wordsIn m d) (m (tLoc d)) (m (pLoc d)) (tileNo c i) (rowsOut m d)
  go := fun q d c i => match q with
    | 0 => holds d (share c i) (wordsIn m d) (m (tLoc d)) (m (pLoc d)) (tileNo c i) (m (oLoc d))
  td := fun q d c i => match q with
    | 0 => holds d (share c i) (wordsIn m d) (m (tLoc d)) (m (pLoc d)) (tileNo c i) (rowsOut m d)
  x := fun _ _ => iprop(emp)

instance holds_storable (d : Dev nD) (q : PosShare TreeShare) (X : Buf (Elt F) (wLoc d)) (Tb : Buf (Elt F) (tLoc d)) (P : Buf (Elt F) (pLoc d))
    (w : Fin 32) (f : Buf (Elt F) (oLoc d)) : BI.Storable (upEmb : UEmb _ 𝕄) (holds d q X Tb P w f) := by
  unfold holds; infer_instance

instance pay_storable : (pay (F := F) m).IsStorable where
  st q d c := match q with
    | 0 => (inferInstance : BI.Storable (upEmb : UEmb _ 𝕄) (bigSep Finset.univ fun i : Fin 16 =>
        holds d (share c i) (wordsIn m d) (m (tLoc d)) (m (pLoc d)) (tileNo c i) (m (oLoc d))))
  dn q d c := match q with
    | 0 => (inferInstance : BI.Storable (upEmb : UEmb _ 𝕄) (bigSep Finset.univ fun i : Fin 16 =>
        holds d (share c i) (wordsIn m d) (m (tLoc d)) (m (pLoc d)) (tileNo c i) (rowsOut m d)))
  go q d c i := match q with
    | 0 => holds_storable d (share c i) (wordsIn m d) (m (tLoc d)) (m (pLoc d)) (tileNo c i) (m (oLoc d))
  td q d c i := match q with
    | 0 => holds_storable d (share c i) (wordsIn m d) (m (tLoc d)) (m (pLoc d)) (tileNo c i) (rowsOut m d)

theorem vecSplit : (K (F := F)).VecSplit' (pay m) 0 := by
  intro d c
  show (bigSep Finset.univ fun i : Fin 16 => holds d (share c i) (wordsIn m d) (m (tLoc d)) (m (pLoc d)) (tileNo c i) (m (oLoc d)))
    ⊢ |={Set.univ}=> iprop(
      (bigSep Finset.univ fun i : Fin 16 => holds d (share c i) (wordsIn m d) (m (tLoc d)) (m (pLoc d)) (tileNo c i) (m (oLoc d)))
      ∗ ((bigSep Finset.univ fun i : Fin 16 => holds d (share c i) (wordsIn m d) (m (tLoc d)) (m (pLoc d)) (tileNo c i) (rowsOut m d))
          -∗ (bigSep Finset.univ fun i : Fin 16 => holds d (share c i) (wordsIn m d) (m (tLoc d)) (m (pLoc d)) (tileNo c i) (rowsOut m d))))
  iintro H; imodintro
  isplitl [H]; · iexact H
  iintro H; iexact H

/-! ## A tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_emb_kernel (coordsV c s)
          wV (Memref.isWhole_whole _) tV (Memref.isWhole_whole _) pV (Memref.isWhole_whole _) oV (Memref.isWhole_whole _)
          wB (Memref.isWhole_whole _) rB (Memref.isWhole_whole _) pB (Memref.isWhole_whole _) cc0_scratch3 cc0_scoped0 cc0_scoped1 cc0_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : InRange m) : (K (F := F)).TileObl (D (F := F)) 𝒱 (pay m) v₀ 0 := by
  intro d c i O W hO _ _
  simp only [show (pay m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (share c i) (wordsIn m d) (m (tLoc d)) (m (pLoc d)) (m (oLoc d))
    (wordsIn_lt m hpre d) facts O W hO).trans (wp_mono frame _ _ fun _ => obl_post)

/-! ## The launch -/

def u₀ : UU := (initOf (K (F := F)).hsCells (K (F := F)).hsToks, 1)

omit [FloatOps F] [Named F] in
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (pay (F := F) m).x q thr) = bigSep Finset.univ fun _ => iprop(emp) from
    bigSep_congr fun _ _ => bigSep_univ_of_subsingleton (0 : Fin 1), nothing]
  iempintro

/-! ## @main on the TensorCore -/

abbrev a' : DevRef τ sig := Proc.devRef .tc (main_arg0 : Ref sig .tc)
abbrev t' : DevRef τ sig := Proc.devRef .tc (main_arg1 : Ref sig .tc)
abbrev p' : DevRef τ sig := Proc.devRef .tc (main_arg2 : Ref sig .tc)
abbrev w' : DevRef τ sig := Proc.devRef .tc (main_v0 : Ref sig .tc)
abbrev o' : DevRef τ sig := Proc.devRef .tc (main_v1 : Ref sig .tc)
abbrev z' : DevRef τ sig := Proc.devRef .tc (main_v2 : Ref sig .tc)

/-- The words' layout, and the result's layout. -/
abbrev opWords : HloOp τ sig (Elt F) := StableHlo.reshape main_arg0 main_v0 rfl shapeCasts_S4x2048_S64x128
abbrev opOut : HloOp τ sig (Elt F) := StableHlo.reshape main_v1 main_v2 rfl shapeCasts_S8192x128_S4x2048x128

/-- The TensorCore's arrays. -/
abbrev S6 : Finset (DevRef τ sig) := {a', t', p', w', o', z'}

omit [FloatOps F] [Named F] in
theorem held_S6 (d : Dev nD) (W : Valuation τ sig (Elt F)) :
    (held (T d) S6 W : sProp 𝕄)
      = iprop((aLoc d ↦{fullShare} W a') ∗ (tLoc d ↦{fullShare} W t') ∗ (pLoc d ↦{fullShare} W p')
          ∗ (wLoc d ↦{fullShare} W w') ∗ (oLoc d ↦{fullShare} W o') ∗ zLoc d ↦{fullShare} W z') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (pLoc d ↦{fullShare} W main_arg2)
          ∗ (wLoc d ↦{fullShare} W main_v0) ∗ (oLoc d ↦{fullShare} W main_v1) ∗ zLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch, before the call, and after it. -/
def V0 (d : Dev nD) : Valuation τ sig (Elt F) := fun b => m (d, b)
def V2 (d : Dev nD) : Valuation τ sig (Elt F) := (opWords (F := F)).result (V0 m d)
def V3 (d : Dev nD) : Valuation τ sig (Elt F) := Function.update (V2 m d) o' (rowsOut m d)

theorem unscoped_held (d : Dev nD) : (unscopedBufs d (fun b => m ((SparseCore.T d).loc b)) : sProp 𝕄) = held (T d) S6 (V0 m d) := by
  rw [unscopedBufs_eq, held_S6]; rfl

/-- An array that the words' layout does not write is as at the launch. -/
theorem V2_of_ne (d : Dev nD) (r : Ref sig .tc) (h : r ≠ main_v0) : V2 m d (Proc.devRef .tc r) = m (d, Proc.devRef .tc r) :=
  StableHlo.reshape_result_ne _ _ _ _ _ _ _ h
theorem V2_w (d : Dev nD) : V2 m d w' = wordsIn m d := StableHlo.reshape_result _ _ _ _ _ _ _

theorem V3_of_ne (d : Dev nD) {b : DevRef τ sig} (h : b ≠ o') : V3 m d b = V2 m d b := Function.update_of_ne h _ _
theorem V3_o (d : Dev nD) : V3 m d o' = rowsOut m d := Function.update_self _ _ _

/-- The arrays before the call. -/
theorem held_V2 (d : Dev nD) :
    (held (T d) S6 ((opWords (F := F)).result (V0 m d)) : sProp 𝕄)
      = iprop((aLoc d ↦{fullShare} m (aLoc d)) ∗ (tLoc d ↦{fullShare} m (tLoc d)) ∗ (pLoc d ↦{fullShare} m (pLoc d))
          ∗ (wLoc d ↦{fullShare} wordsIn m d) ∗ (oLoc d ↦{fullShare} m (oLoc d)) ∗ zLoc d ↦{fullShare} m (zLoc d)) := by
  show held (SparseCore.T d) S6 (V2 m d) = _
  rw [held_S6, V2_w, V2_of_ne m d main_arg2 (by decide), V2_of_ne m d main_arg0 (by decide), V2_of_ne m d main_arg1 (by decide),
    V2_of_ne m d main_v1 (by decide), V2_of_ne m d main_v2 (by decide)]

theorem held_V3 (d : Dev nD) :
    (held (T d) S6 (V3 m d) : sProp 𝕄)
      = iprop((aLoc d ↦{fullShare} m (aLoc d)) ∗ (tLoc d ↦{fullShare} m (tLoc d)) ∗ (pLoc d ↦{fullShare} m (pLoc d))
          ∗ (wLoc d ↦{fullShare} wordsIn m d) ∗ (oLoc d ↦{fullShare} rowsOut m d) ∗ zLoc d ↦{fullShare} m (zLoc d)) := by
  rw [held_S6, V3_o, V3_of_ne m d (show a' ≠ o' by decide), V3_of_ne m d (show t' ≠ o' by decide), V3_of_ne m d (show p' ≠ o' by decide),
    V3_of_ne m d (show w' ≠ o' by decide), V3_of_ne m d (show z' ≠ o' by decide),
    V2_w, V2_of_ne m d main_arg2 (by decide), V2_of_ne m d main_arg0 (by decide), V2_of_ne m d main_arg1 (by decide),
    V2_of_ne m d main_v2 (by decide)]

theorem V4_z (d : Dev nD) : (opOut (F := F)).result (V3 m d) z' = outcome m d := by
  refine (StableHlo.reshape_result _ _ _ _ _ _ _).trans ?_
  rw [V3_o]; rfl
theorem V4_of_ne (d : Dev nD) (r : Ref sig .tc) (h : r ≠ main_v2) : (opOut (F := F)).result (V3 m d) (Proc.devRef .tc r) = V3 m d (Proc.devRef .tc r) :=
  StableHlo.reshape_result_ne _ _ _ _ _ _ _ h

/-- What @main leaves: the arguments, and the result. -/
abbrev FIN (d : Dev nD) : sProp 𝕄 :=
  iprop((aLoc d ↦{fullShare} m (aLoc d)) ∗ (tLoc d ↦{fullShare} m (tLoc d))
    ∗ (pLoc d ↦{fullShare} m (pLoc d)) ∗ zLoc d ↦{fullShare} outcome m d)

theorem held_V4 (d : Dev nD) : (held (T d) S6 ((opOut (F := F)).result (V3 m d)) : sProp 𝕄) ⊢ FIN m d := by
  rw [held_S6, V4_z, V4_of_ne m d main_arg0 (by decide), V4_of_ne m d main_arg1 (by decide), V4_of_ne m d main_arg2 (by decide),
    V3_of_ne m d (show a' ≠ o' by decide), V3_of_ne m d (show t' ≠ o' by decide), V3_of_ne m d (show p' ≠ o' by decide),
    V2_of_ne m d main_arg0 (by decide), V2_of_ne m d main_arg1 (by decide), V2_of_ne m d main_arg2 (by decide)]
  iintro ⟨Ha, Ht, Hp, -, -, Hz⟩
  isplitl [Ha]; · iexact Ha
  isplitl [Ht]; · iexact Ht
  isplitl [Hp]; · iexact Hp
  iexact Hz

theorem st_eq (d : Dev nD) : (bigSep Finset.univ fun c : Fin ((K (F := F)).nCore 0) => (pay m).st 0 d c)
    = iprop((wLoc d ↦{fullShare} wordsIn m d) ∗ (tLoc d ↦{fullShare} m (tLoc d)) ∗ (pLoc d ↦{fullShare} m (pLoc d)) ∗ oLoc d ↦{fullShare} m (oLoc d)) :=
  (all_split d _ _ _ _).symm
theorem dn_eq (d : Dev nD) : (bigSep Finset.univ fun c : Fin ((K (F := F)).nCore 0) => (pay m).dn 0 d c)
    = iprop((wLoc d ↦{fullShare} wordsIn m d) ∗ (tLoc d ↦{fullShare} m (tLoc d)) ∗ (pLoc d ↦{fullShare} m (pLoc d)) ∗ oLoc d ↦{fullShare} rowsOut m d) :=
  (all_split d _ _ _ _).symm

theorem hWords : (opWords (F := F)).bufs ⊆ S6 := show ({a', w'} : Finset (DevRef τ sig)) ⊆ S6 by decide
theorem hOut : (opOut (F := F)).bufs ⊆ S6 := show ({o', z'} : Finset (DevRef τ sig)) ⊆ S6 by decide

/-- @main on device `d`'s TensorCore. -/
theorem hmain (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opWords) (S := S6) hWords (V := V0 m d)) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Ht, Hp, Hw, Ho, Hz⟩
  iapply ((K (F := F)).wp_run (D (F := F)) 𝒱 (EH := EH) (P := pay m) κ d 0) $$ [Hst Ht Hp Hw Ho Hb Ha Hz Hts]
  isplitr; · iexact Hctx
  isplitl [Hst]; · iexact Hst
  isplitl [Ht Hp Hw Ho]
  · rw [st_eq]
    isplitl [Hw]; · iexact Hw
    isplitl [Ht]; · iexact Ht
    isplitl [Hp]; · iexact Hp
    iexact Ho
  iintro ⟨Hst, Hdn⟩
  ihave Hdn' := (Entails.of_eq (dn_eq m d)) $$ Hdn
  icases Hdn' with ⟨Hw, Ht, Hp, Ho⟩
  iapply (wp_hlo_within 𝒱 (SparseCore.T d) none Set.univ (op := opOut) (S := S6) hOut (V := V3 m d)) $$ [Hb Ha Ht Hp Hw Ho Hz]
  · isplitl [Hb]; · iexact Hb
    rw [held_V3]
    isplitl [Ha]; · iexact Ha
    isplitl [Ht]; · iexact Ht
    isplitl [Hp]; · iexact Hp
    isplitl [Hw]; · iexact Hw
    isplitl [Ho]; · iexact Ho
    iexact Hz
  iintro ⟨Hb, Hheld⟩
  rw [wp_ret]; imodintro; imodintro
  isplitl [Hst]; · iexact Hst
  isplitr [Hb Hts]
  · iapply (held_V4 m d); iexact Hheld
  isplitl [Hb] <;> iassumption

/-! ## The run -/

/-- What the claims read of device `d`'s final state. -/
def fq (d : Dev nD) (s' : Phys nD τ sig (Elt F)) : Prop :=
  s'.mem.mem (zLoc d) = outcome m d ∧ s'.mem.mem (aLoc d) = m (aLoc d) ∧ s'.mem.mem (tLoc d) = m (tLoc d)
    ∧ s'.mem.mem (pLoc d) = m (pLoc d)

/-- An array held whole at known contents is so in the state. -/
theorem agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Hp, Hz⟩, HSI⟩
  ihave H := (agree (ℓ := aLoc d) (m (aLoc d)) s') $$ [Ha HSI]
  · isplitl [Ha] <;> iassumption
  icases H with ⟨%ha, HSI⟩
  ihave H := (agree (ℓ := tLoc d) (m (tLoc d)) s') $$ [Ht HSI]
  · isplitl [Ht] <;> iassumption
  icases H with ⟨%ht, HSI⟩
  ihave H := (agree (ℓ := pLoc d) (m (pLoc d)) s') $$ [Hp HSI]
  · isplitl [Hp] <;> iassumption
  icases H with ⟨%hp, HSI⟩
  ihave H := (agree (ℓ := zLoc d) (outcome m d) s') $$ [Hz HSI]
  · isplitl [Hz] <;> iassumption
  icases H with ⟨%hz, HSI⟩
  ipureintro; exact ⟨hz, ha, ht, hp⟩

def QC : PUnit × MemSt nD τ sig (Elt F) → Prop := fun r =>
  (∀ c : Dev nD, r.2.mem (zLoc c) = outcome m c ∧ r.2.mem (aLoc c) = m (aLoc c) ∧ r.2.mem (tLoc c) = m (tLoc c)
    ∧ r.2.mem (pLoc c) = m (pLoc c)) ∧ r.2.sem = fun _ => 0

/-- Every run from a memory whose words name rows of the table ends with the result at `outcome`, the arguments
    unchanged and the semaphores at zero. -/
theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tiles

end
-- ==== Proof.Lookup.lean ====
/-
  The reference's value at one element, when the words are below 1000000.

  The reference looks the words up in the table with care for words that name no row: a negative word counts from the
  table's end, and a word still outside gives a not-a-number. Words below 1000000 are neither, so the lookup is the
  table's row named by the word (`looked_apply`), and the reference is that row times the root, plus the position row
  (`value_apply`).
-/
module

public import proofs.«01_k».proof.Proof.Gen.ReferenceIdeal
public import proofs.«01_k».proof.Proof.Rows
public import Idealize.ShloMosaic.Lib.ReduceAll
public import Idealize.ShloMosaic.Lib.StableHlo.Predicate

@[expose] public section

noncomputable section

namespace Cert.Lookup

open Idealize.ShloMosaic
open Idealize.ShloMosaic.ValueIdx (ix1 ix2 ix3 eq_ix2)
open Cert.ReferenceIdeal Cert.ReferenceIdeal.Gen

variable {F : FTy → Type} [FloatOps F]

/-! ## The reference's operations -/

/-- The words as the reference looks them up: negative ones count from the table's end. -/
def wrapped (X : IVec S4x2048 32) : IVec S4x2048x1 32 :=
  broadcastInDim S4x2048x1 ![0, 1] bcast_S4x2048_S4x2048x1_0_1
    (select (cmpi .slt X (broadcastInDim S4x2048 ![] bcast_S_S4x2048 (constantI S_ 32 0#32)))
      (addi X (broadcastInDim S4x2048 ![] bcast_S_S4x2048 (constantI S_ 32 1000000#32))) X)

/-- One where a word names a row of the table. -/
def valid (X : IVec S4x2048 32) : IVec S4x2048 1 :=
  Host.reduce IntOp.andi
    (andi (cmpi .sge (wrapped X) (broadcastInDim S4x2048x1 ![] bcast_S_S4x2048x1 (constantI S_ 32 0#32)))
      (cmpi .sle (wrapped X) (broadcastInDim S4x2048x1 ![0, 1, 2] bcast_S1x1x1_S4x2048x1_0_1_2
        (broadcastInDim S1x1x1 ![2] bcast_S1_S1x1x1_2 (constantI S1 32 999999#32)))))
    (constantI S_ 1 1#1) reducesTo_S4x2048x1_S4x2048_d2 h_S_

/-- The table's rows, clamped into the table. -/
def gathered (X : IVec S4x2048 32) (T : FVec F S1000000x128 .f32) : FVec F S4x2048x128 .f32 :=
  Host.gather gather_S1000000x128_S4x2048x1_S4x2048x128_2_0_n_n_0_2_1128 T (wrapped X)

/-- The rows looked up. -/
def looked (X : IVec S4x2048 32) (T : FVec F S1000000x128 .f32) : FVec F S4x2048x128 .f32 :=
  select (broadcastInDim S4x2048x128 ![0, 1] bcast_S4x2048_S4x2048x128_0_1 (valid X)) (gathered X T)
    (broadcastInDim S4x2048x128 ![] bcast_S_S4x2048x128 (constant S_ .f32 0x7FC00000#32))

/-- The reference's result. -/
def value (X : IVec S4x2048 32) (T : FVec F S1000000x128 .f32) (P : FVec F S2048x128 .f32) : FVec F S4x2048x128 .f32 :=
  addf (mulf (looked X T) (broadcastInDim S4x2048x128 ![] bcast_S_S4x2048x128 (Host.sqrt (constant S_ .f32 0x43000000#32))))
    (broadcastInDim S4x2048x128 ![0, 1, 2] bcast_S1x2048x128_S4x2048x128_0_1_2
      (broadcastInDim S1x2048x128 ![1, 2] bcast_S2048x128_S1x2048x128_1_2 P))

/-! ## At one element -/

/-- The word that an entry of the laid-out words holds, and the word of an element of the result. -/
def entry (i : S4x2048x1.Idx) : S4x2048.Idx := ix2 (n0 := 4) (n1 := 2048) (i 0) (i 1)
def word (y : S4x2048x128.Idx) : S4x2048.Idx := ix2 (n0 := 4) (n1 := 2048) (y 0) (y 1)

variable (X : IVec S4x2048 32) (hX : ∀ j, (X j).toNat < 1000000)

/-- A word below 1000000 is not negative. -/
theorem not_negative (v : BitVec 32) (hv : v.toNat < 1000000) : IntOp.cmpi .slt v 0#32 = 0#1 := by
  refine ValueIdx.eq_zero_of_ne_one fun h => ?_
  have := (StableHlo.Predicate.slt_iff_toNat (a := v) (b := 0#32) (by omega) (by decide)).1 h
  simp at this

include hX in
/-- Words below 1000000 are looked up as they are. -/
theorem wrapped_apply (i : S4x2048x1.Idx) : wrapped X i = X (entry i) := by
  have e : wrapped X i = Scalar.select (IntOp.cmpi .slt (X (entry i)) 0#32)
      (IntOp.addi (X (entry i)) 1000000#32) (X (entry i)) := by
    have e' : (fun a : Fin 2 => if h1 : S4x2048.size a = 1 then (⟨0, by omega⟩ : Fin (S4x2048.size a))
        else ⟨(i ((![0, 1] : Fin 2 → Fin 3) a)).val, by
          match a with
          | ⟨0, _⟩ => exact (i 0).isLt
          | ⟨1, _⟩ => exact (i 1).isLt⟩) = entry i := by
      funext a
      match a with
      | ⟨0, _⟩ => rfl
      | ⟨1, _⟩ => rfl
    rw [← e']
    rfl
  rw [e, not_negative _ (hX _), ValueIdx.select_zero]

include hX in
/-- Every word names a row. -/
theorem valid_apply (j : S4x2048.Idx) : valid X j = 1#1 := by
  refine Host.reduce_andi_one _ _ _ _ _ rfl fun i => IntOp.andi_eq_one.2 ⟨?_, ?_⟩
  · show IntOp.cmpi .sge (wrapped X i) 0#32 = 1#1
    rw [wrapped_apply X hX]
    have := hX (entry i)
    exact (StableHlo.Predicate.sge_iff_toNat (by omega) (by decide)).2 (by simp)
  · show IntOp.cmpi .sle (wrapped X i) 999999#32 = 1#1
    rw [wrapped_apply X hX]
    have := hX (entry i)
    exact (StableHlo.Predicate.sle_iff_toNat (by omega) (by decide)).2 (by
      show _ ≤ 999999
      omega)

/-- The gather's dimension numbers. -/
abbrev dims : GatherDims S1000000x128 S4x2048x1 S4x2048x128 := gather_S1000000x128_S4x2048x1_S4x2048x128_2_0_n_n_0_2_1128

include hX in
/-- The gather reads, for element `(b, t, k)`, lane `k` of the table's row named by word `(b, t)`. -/
theorem gathered_apply (T : FVec F S1000000x128 .f32) (y : S4x2048x128.Idx) :
    gathered X T y = T (ix2 (Rows.tableRow (X (word y))) (y 2)) := by
  unfold gathered Host.gather
  congr 1
  funext a
  refine Fin.ext ?_
  show dims.start y (wrapped X) a + dims.batchCoord y a + dims.offCoord y a = _
  rw [GatherDims.batchCoord_eq_zero _ _ _ List.not_mem_nil]
  match a with
  | ⟨0, _⟩ =>
    have hm : (⟨0, by decide⟩ : Fin 2) ∈ dims.startIndexMap := List.mem_singleton.mpr rfl
    rw [GatherDims.offCoord_eq_zero _ _ _ (fun h => ((GatherDims.mem_sKept _ _).mp h).1 (List.mem_singleton.mpr rfl))]
    unfold GatherDims.start
    rw [dif_pos hm, wrapped_apply X hX]
    have hi : entry (dims.siIdx y ⟨List.idxOf (⟨0, by decide⟩ : Fin 2) dims.startIndexMap, List.idxOf_lt_length_iff.2 hm⟩)
        = word y := by
      funext b
      match b with
      | ⟨0, _⟩ => rfl
      | ⟨1, _⟩ => rfl
    have hw := hX (word y)
    have hn : (X (word y)).toInt.toNat = (X (word y)).toNat := by
      rw [StableHlo.Predicate.toInt_eq_toNat_of_lt (by omega)]
      rfl
    rw [hi, hn]
    show min _ 999999 + 0 + 0 = (X (word y)).toNat % 1000000
    omega
  | ⟨1, _⟩ =>
    have hs : dims.start y (wrapped X) ⟨1, by decide⟩ = 0 := rfl
    have ho : dims.offCoord y ⟨1, by decide⟩ = (y 2).val := rfl
    rw [hs, ho]
    show 0 + 0 + (y 2).val = (y 2).val
    omega

include hX in
/-- So does the lookup: lane `k` of the row that word `(b, t)` names. -/
theorem looked_apply (T : FVec F S1000000x128 .f32) (y : S4x2048x128.Idx) :
    looked X T y = T (ix2 (Rows.tableRow (X (word y))) (y 2)) := by
  have hv : broadcastInDim S4x2048x128 ![0, 1] bcast_S4x2048_S4x2048x128_0_1 (valid X) y = 1#1 := by
    unfold broadcastInDim
    exact valid_apply X hX _
  unfold looked
  rw [ValueIdx.select_apply, hv, ValueIdx.select_one, gathered_apply X hX]

include hX in
/-- The reference at element `(b, t, k)`: lane `k` of the table's row named by word `(b, t)`, times the root, plus lane
    `k` of position row `t`. -/
theorem value_apply (T : FVec F S1000000x128 .f32) (P : FVec F S2048x128 .f32) (y : S4x2048x128.Idx) :
    value X T P y = Rows.scaled (FloatOps.hostUnary .sqrt (FloatOps.ofBits .f32 0x43000000#32))
      (T (ix2 (Rows.tableRow (X (word y))) (y 2))) (P (ix2 (y 1) (y 2))) := by
  have hP : broadcastInDim S4x2048x128 ![0, 1, 2] bcast_S1x2048x128_S4x2048x128_0_1_2
      (broadcastInDim S1x2048x128 ![1, 2] bcast_S2048x128_S1x2048x128_1_2 P) y = P (ix2 (y 1) (y 2)) := by
    unfold broadcastInDim
    congr 1
    funext a
    match a with
    | ⟨0, _⟩ => rfl
    | ⟨1, _⟩ => rfl
  show FloatOps.addf (FloatOps.mulf (looked X T y) _) (broadcastInDim S4x2048x128 ![0, 1, 2]
    bcast_S1x2048x128_S4x2048x128_0_1_2 (broadcastInDim S1x2048x128 ![1, 2] bcast_S2048x128_S1x2048x128_1_2 P) y) = _
  rw [looked_apply X hX, hP]
  rfl

end Cert.Lookup

end
-- ==== Proof.Root.lean ====
/-
  The number the reference takes the square root of: its 32-bit pattern denotes the real number 128.
-/
module

public import Idealize.ShloMosaic.PureOps.Ideal

@[expose] public section

noncomputable section

namespace Cert.Root

open Idealize.ShloMosaic

/-- The pattern of `128.0` denotes 128. -/
theorem width : Ideal.ofBits .f32 0x43000000#32 = ((128 : ℝ) : EReal) := by
  simp [Ideal.ofBits, Ideal.ieee, -EReal.coe_mul]
  norm_num

/-- The host's square root of that number is the real square root of 128. -/
theorem root : (FloatOps.hostUnary .sqrt (FloatOps.ofBits (F := Ideal) .f32 0x43000000#32) : Ideal .f32) = ((Real.sqrt 128 : ℝ) : EReal) := by
  have h : ¬(128 : ℝ) < 0 := by norm_num
  rw [Ideal.hostUnary_sqrt_def, Ideal.ofBits_def, width, Ideal.sqrt_coe, if_neg h]

end Cert.Root

end
-- ==== Proof.Equal.lean ====
/-
  The kernel's result and the reference's are equal, over the extended reals, when the words are below 1000000.

  Element `(b, t, k)` of the kernel's result is element `k` of row `2048 b + t` of what the tiles write: word `(b, t)`
  names its table row, and its position row is row `t` (`outcome_apply`). The constant the kernel scales by is the square
  root of 128, which is what the reference computes (`outcome_eq`).
-/
module

public import proofs.«01_k».proof.Proof.IdealRun
public import proofs.«01_k».proof.Proof.Lookup
public import proofs.«01_k».proof.Proof.Root
public import Idealize.ShloMosaic.PureOps.IdealRules

@[expose] public section

noncomputable section

namespace Cert.Equal

open Idealize.ShloMosaic
open Idealize.ShloMosaic.ValueIdx (ix2)
open Cert.KernelIdeal Cert.KernelIdeal.Gen Cert.KernelIdeal.Tiles
open Cert.Lookup (word)

/-- The output row that element `y` of the result is in. -/
def row (y : S4x2048x128.Idx) : Fin 8192 :=
  ⟨(y 0).val * 2048 + (y 1).val, by
    have h0 : (y 0).val < 4 := (y 0).isLt
    have h1 : (y 1).val < 2048 := (y 1).isLt
    omega⟩

/-- Laying out the rows as the result puts row `2048 b + t` at `(b, t)`. -/
theorem result_layout {α : Type} (Z : S8192x128.Idx → α) (y : S4x2048x128.Idx) :
    shapeCast S4x2048x128 Z shapeCasts_S8192x128_S4x2048x128 y = Z (ix2 (row y) (y 2)) := by
  unfold shapeCast
  rw [Shape.reshapeEquiv_eq_of_rowMajor shapeCasts_S8192x128_S4x2048x128 (x := y) (y := ix2 (row y) (y 2)) (by
    rw [Shape.rowMajor_val_two, Shape.rowMajor_val_three]
    show ((y 0).val * 2048 + (y 1).val) * 128 + (y 2).val = ((y 0).val * 2048 + (y 1).val) * 128 + (y 2).val
    rfl)]

/-- Laying out the words 128 to a row, the word of row `2048 b + t` is word `(b, t)`. -/
theorem words_layout (X : S4x2048.Idx → BitVec 32) (y : S4x2048x128.Idx) :
    Rows.wordAt (shapeCast S64x128 X shapeCasts_S4x2048_S64x128) (row y) = X (word y) := by
  unfold Rows.wordAt shapeCast
  rw [Shape.reshapeEquiv_eq_of_rowMajor shapeCasts_S4x2048_S64x128 (y := word y) (by
    rw [Shape.rowMajor_val_two, Shape.rowMajor_val_two]
    show (y 0).val * 2048 + (y 1).val = (row y).val / 128 * 128 + (row y).val % 128
    rw [Nat.div_add_mod']
    rfl)]

/-- The position row of row `2048 b + t` is row `t`. -/
theorem posn_layout (y : S4x2048x128.Idx) : Rows.posRow (row y) = (⟨(y 1).val, (y 1).isLt⟩ : Fin 2048) := by
  refine Fin.ext ?_
  have h1 : (y 1).val < 2048 := (y 1).isLt
  show ((y 0).val * 2048 + (y 1).val) % 2048 = (y 1).val
  omega

variable {F : FTy → Type} [FloatOps F] [Named F]

variable (m : (ℓ : Loc nD τ sig) → Buf (Elt F) ℓ)

/-- The kernel's result at element `(b, t, k)`. -/
theorem outcome_apply (d : Dev nD) (y : S4x2048x128.Idx) :
    outcome m d y = Rows.scaled scale (m (tLoc d) (ix2 (Rows.tableRow (m (aLoc d) (word y))) (y 2)))
      (m (pLoc d) (ix2 (n0 := 2048) (n1 := 128) (y 1) (y 2))) := by
  unfold outcome
  rw [result_layout]
  unfold rowsOut Rows.result
  unfold wordsIn
  have h := words_layout (m (aLoc d)) y
  have hp := posn_layout y
  show Rows.scaled scale (m (tLoc d) (ix2 (Rows.tableRow (Rows.wordAt _ (row y))) (y 2)))
    (m (pLoc d) (ix2 (Rows.posRow (row y)) (y 2))) = _
  rw [h, hp]
  rfl

/-- The constant the kernel scales by is the root the reference computes. -/
theorem scale_eq : (scale : Ideal .f32) = FloatOps.hostUnary .sqrt (FloatOps.ofBits (F := Ideal) .f32 0x43000000#32) :=
  (IdealRules.named_const.ideal_named_scalar _ _ _ _ rfl).trans Cert.Root.root.symm

/-- The kernel's result is the reference's of the same words, table and position rows. -/
theorem outcome_eq (m : (ℓ : Loc nD τ sig) → Buf (Elt Ideal) ℓ) (hpre : InRange m) (d : Dev nD) :
    outcome m d = Cert.Lookup.value (F := Ideal) (m (aLoc d)) (m (tLoc d)) (m (pLoc d)) := by
  funext y
  rw [outcome_apply, Cert.Lookup.value_apply _ (hpre d), scale_eq]

end Cert.Equal

end
-- ==== Proof.lean ====
/-
  The proof of `Cert.Claim`, assembled from the modules under Proof/.

  `Streams` and `Rows` are the plain facts. `KernelViews`, `KernelTrip`, `KernelGather`, `KernelTile` and `KernelRun` run
  the program as printed, and `IdealViews` to `IdealRun` run its idealization in the same steps. `Bounds` reads the
  precondition; `Lookup`, `Root` and `Equal` compare the kernel's result with the reference's.
-/
module

public import proofs.«01_k».proof.Defs
public import proofs.«01_k».proof.Proof.Bounds
public import proofs.«01_k».proof.Proof.KernelRun
public import proofs.«01_k».proof.Proof.IdealRun
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The precondition says that every word of the kernel's names a row of the table. -/
theorem in_range (m : (ℓ : Loc Cert.Kernel.nD Cert.Kernel.τ Cert.Kernel.sig) → Buf (Elt Bits) ℓ) (h : Cert.Pre_Kernel m) :
    Cert.Kernel.Tiles.InRange m := fun d j => Cert.Bounds.bound _ _ _ (h d) j

/-- So does that of the idealized kernel. -/
theorem in_range_ideal (m : (ℓ : Loc Cert.KernelIdeal.nD Cert.KernelIdeal.τ Cert.KernelIdeal.sig) → Buf (Elt Ideal) ℓ)
    (h : Cert.Pre_KernelIdeal m) : Cert.KernelIdeal.Tiles.InRange m := fun d j => Cert.Bounds.bound _ _ _ (h d) j

/-- The kernel runs, leaves its arguments as they were and every semaphore at zero. -/
theorem frame_kernel : Cert.quiescent_Kernel := fun m g h =>
  (θ_run Cert.Kernel.defs _ _).mono (fun _ hr => ⟨fun c => (hr.1 c).2, hr.2⟩) (Cert.Kernel.Tiles.run_main m g (in_range m h))

/-- So does the idealized kernel. -/
theorem frame_ideal : Cert.quiescent_KernelIdeal := fun m g h =>
  (θ_run Cert.KernelIdeal.defs _ _).mono (fun _ hr => ⟨fun c => (hr.1 c).2, hr.2⟩)
    (Cert.KernelIdeal.Tiles.run_main m g (in_range_ideal m h))

/-- So does the reference, whatever its arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- In particular under the precondition. -/
theorem frame_reference_pre : Cert.quiescent_ReferenceIdeal_pre_in_vocab := fun m g _ => frame_reference m g trivial

/-- The constant named in the idealization denotes the square root of 128. -/
theorem preserved : Cert.preserves_Kernel_KernelIdeal :=
  IdealRules.named_const.statement Cert.KernelIdeal.κ "s" .f32 0x413504F3#32 ((Real.sqrt 128 : ℝ) : EReal) rfl

/-- The idealized kernel and the reference, of the same arguments, end with the same result. -/
theorem equal : Cert.algebraic_KernelIdeal_ReferenceIdeal := fun m g m' g' h hargs => by
  refine ⟨fun c => Cert.KernelIdeal.Tiles.outcome m c, ?_, ?_⟩
  · exact (θ_run Cert.KernelIdeal.defs _ _).mono (fun _ hr => hr.1) (Cert.KernelIdeal.Tiles.run_main m g (in_range_ideal m h))
  · refine (θ_run Cert.ReferenceIdeal.defs _ _).mono (fun r hr c => ⟨?_, (hr c).2⟩) (Cert.ReferenceIdeal.Value.run (F := Ideal) m' g')
    refine Eq.trans ?_ (Cert.Equal.outcome_eq m (in_range_ideal m h) c).symm
    have e : r.2.mem ((c.tc : Thread Cert.ReferenceIdeal.nD Cert.ReferenceIdeal.τ).loc Cert.ReferenceIdeal.main_v6)
        = Cert.Lookup.value (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := (hr c).1
    rw [e, (hargs c).1, (hargs c).2.1, (hargs c).2.2]

/-- Everything claimed. -/
theorem claim : Cert.Claim :=
  ⟨Cert.Kernel.Gen.facts, Cert.KernelIdeal.Gen.facts, Cert.ReferenceIdeal.Gen.facts, Cert.Pre_in_vocab.Gen.facts,
    frame_kernel, frame_ideal, frame_reference, frame_reference_pre, preserved, equal⟩

end Cert.Proof

end
